-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x2048x6912 : Shape := ⟨3, ![8, 2048, 6912]⟩
abbrev S6912x4096 : Shape := ⟨2, ![6912, 4096]⟩
abbrev S54x32 : Shape := ⟨2, ![54, 32]⟩
abbrev S8x2048x54x128 : Shape := ⟨4, ![8, 2048, 54, 128]⟩
abbrev S_ : Shape := ⟨0, ![]⟩
abbrev S8x2048x54 : Shape := ⟨3, ![8, 2048, 54]⟩

class Facts : Prop where
  bitsLt_bf16_f32 : FTy.bits .bf16 < FTy.bits .f32
  shapeCasts_S8x2048x6912_S8x2048x54x128 : S8x2048x6912.ShapeCasts S8x2048x54x128
  reducesTo_S8x2048x54x128_S8x2048x54_d3 : S8x2048x54x128.ReducesTo [3] S8x2048x54
  h_S_ : 0 < S_.numel
  bcast_S_S8x2048x54 : S_.BroadcastsInDim S8x2048x54 (![] : Fin 0 → Fin S8x2048x54.rank)

variable [Facts]

def fn {F : FTy → Type} [FloatOps F] (main_arg0 : FVec F S8x2048x6912 .bf16) (main_arg1 : FVec F S6912x4096 .fp8e4m3) (main_arg2 : FVec F S54x32 .f32) : IVec S8x2048x54 1 :=
  let main_v0 : FVec F S8x2048x6912 .f32 := (extf .f32 · bitsLt_bf16_f32) main_arg0
  let main_v1 : FVec F S8x2048x6912 .f32 := Host.absf main_v0
  let main_v2 : FVec F S8x2048x54x128 .f32 := shapeCast S8x2048x54x128 main_v1 shapeCasts_S8x2048x6912_S8x2048x54x128
  let main_cst : FVec F S_ .f32 := constant S_ .f32 0xFF800000#32
  let main_v3 : FVec F S8x2048x54 .f32 := (fun x v => Host.reduce FloatOps.maximumf x v reducesTo_S8x2048x54x128_S8x2048x54_d3 h_S_) main_v2 main_cst
  let main_cst_0 : FVec F S_ .f32 := constant S_ .f32 0x3B124925#32
  let main_v4 : FVec F S8x2048x54 .f32 := broadcastInDim S8x2048x54 ![] bcast_S_S8x2048x54 main_cst_0
  let main_v5 : FVec F S8x2048x54 .f32 := mulf main_v3 main_v4
  let main_cst_1 : FVec F S_ .f32 := constant S_ .f32 0x00000000#32
  let main_v6 : FVec F S8x2048x54 .f32 := broadcastInDim S8x2048x54 ![] bcast_S_S8x2048x54 main_cst_1
  let main_v7 : IVec S8x2048x54 1 := cmpf .oeq main_v3 main_v6
  let main_cst_2 : FVec F S_ .f32 := constant S_ .f32 0x00800000#32
  let main_v8 : FVec F S8x2048x54 .f32 := broadcastInDim S8x2048x54 ![] bcast_S_S8x2048x54 main_cst_2
  let main_v9 : IVec S8x2048x54 1 := cmpf .oge main_v5 main_v8
  let main_cst_3 : FVec F S_ .f32 := constant S_ .f32 0x7E800000#32
  let main_v10 : FVec F S8x2048x54 .f32 := broadcastInDim S8x2048x54 ![] bcast_S_S8x2048x54 main_cst_3
  let main_v11 : IVec S8x2048x54 1 := cmpf .olt main_v5 main_v10
  let main_v12 : IVec S8x2048x54 1 := andi main_v9 main_v11
  let main_v13 : IVec S8x2048x54 1 := ori main_v7 main_v12
  main_v13
-- ==== Kernel.lean ====
abbrev S8x2048x6912 : Shape := ⟨3, ![8, 2048, 6912]⟩
abbrev S6912x4096 : Shape := ⟨2, ![6912, 4096]⟩
abbrev S54x32 : Shape := ⟨2, ![54, 32]⟩
abbrev S16384x6912 : Shape := ⟨2, ![16384, 6912]⟩
abbrev S16384x4096 : Shape := ⟨2, ![16384, 4096]⟩
abbrev S16384x54 : Shape := ⟨2, ![16384, 54]⟩
abbrev S512x6912 : Shape := ⟨2, ![512, 6912]⟩
abbrev S6912x512 : Shape := ⟨2, ![6912, 512]⟩
abbrev S512x512 : Shape := ⟨2, ![512, 512]⟩
abbrev S512x54 : Shape := ⟨2, ![512, 54]⟩
abbrev S64x54 : Shape := ⟨2, ![64, 54]⟩
abbrev S64x128 : Shape := ⟨2, ![64, 128]⟩
abbrev S64 : Shape := ⟨1, ![64]⟩
abbrev S64x1 : Shape := ⟨2, ![64, 1]⟩
abbrev S64x256 : Shape := ⟨2, ![64, 256]⟩
abbrev S1x1 : Shape := ⟨2, ![1, 1]⟩
abbrev S128x128 : Shape := ⟨2, ![128, 128]⟩

abbrev nBuf : Space → Nat
  | .hbm => 7
  | .vmem => 12
  | .smem => 1
  | _ => 0

abbrev bufTy : (tb : Table) → Fin (tcTables nBuf tb) → BufTy
  | .hbm, ⟨0, _⟩ => ⟨S8x2048x6912, .bf16⟩
  | .hbm, ⟨1, _⟩ => ⟨S6912x4096, .fp8e4m3⟩
  | .hbm, ⟨2, _⟩ => ⟨S54x32, .f32⟩
  | .hbm, ⟨3, _⟩ => ⟨S16384x6912, .bf16⟩
  | .hbm, ⟨4, _⟩ => ⟨S16384x4096, .bf16⟩
  | .hbm, ⟨5, _⟩ => ⟨S16384x6912, .fp8e4m3⟩
  | .hbm, ⟨6, _⟩ => ⟨S16384x54, .f32⟩
  | .local _ .vmem, ⟨0, _⟩ => ⟨S512x6912, .bf16⟩
  | .local _ .vmem, ⟨1, _⟩ => ⟨S512x6912, .bf16⟩
  | .local _ .vmem, ⟨2, _⟩ => ⟨S6912x512, .fp8e4m3⟩
  | .local _ .vmem, ⟨3, _⟩ => ⟨S6912x512, .fp8e4m3⟩
  | .local _ .vmem, ⟨4, _⟩ => ⟨S512x512, .bf16⟩
  | .local _ .vmem, ⟨5, _⟩ => ⟨S512x512, .bf16⟩
  | .local _ .vmem, ⟨6, _⟩ => ⟨S512x6912, .fp8e4m3⟩
  | .local _ .vmem, ⟨7, _⟩ => ⟨S512x6912, .fp8e4m3⟩
  | .local _ .vmem, ⟨8, _⟩ => ⟨S512x54, .f32⟩
  | .local _ .vmem, ⟨9, _⟩ => ⟨S512x54, .f32⟩
  | .local _ .vmem, ⟨10, _⟩ => ⟨S512x6912, .bf16⟩
  | .local _ .vmem, ⟨11, _⟩ => ⟨S6912x512, .bf16⟩
  | .local _ .smem, ⟨0, _⟩ => ⟨S54x32, .f32⟩
  | _, _ => ⟨S8x2048x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1408 : BitVec 32 := 0#32
  let c8_i32 : BitVec 32 := 8#32
  let v2600 : BitVec 32 := Scalar.addi c0_i32_1408 c8_i32
  let c1_i32_1409 : BitVec 32 := 1#32
  ⟨c0_i32_1408, v2600, c1_i32_1409⟩
def k0_mult1 (k0_t1 : Fin k0_t1_loop.trips) : BitVec 32 :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  v2603
def k0_off1 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v2607 : Index := Scalar.indexCast v2604
  let c0_1414 : Index := 0#32
  ![v2607.toNat, 0]
def k0_off2 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v2661 : Index := Scalar.indexCast v2604
  let c128_1425 : Index := 128#32
  ![v2661.toNat, 128]
def k0_off3 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v2715 : Index := Scalar.indexCast v2604
  let c256_1440 : Index := 256#32
  ![v2715.toNat, 256]
def k0_off4 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v2769 : Index := Scalar.indexCast v2604
  let c384_1455 : Index := 384#32
  ![v2769.toNat, 384]
def k0_off5 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v2823 : Index := Scalar.indexCast v2604
  let c512_1470 : Index := 512#32
  ![v2823.toNat, 512]
def k0_off6 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v2877 : Index := Scalar.indexCast v2604
  let c640_1485 : Index := 640#32
  ![v2877.toNat, 640]
def k0_off7 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v2931 : Index := Scalar.indexCast v2604
  let c768_1499 : Index := 768#32
  ![v2931.toNat, 768]
def k0_off8 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v2985 : Index := Scalar.indexCast v2604
  let c896_1513 : Index := 896#32
  ![v2985.toNat, 896]
def k0_off9 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3039 : Index := Scalar.indexCast v2604
  let c1024_1527 : Index := 1024#32
  ![v3039.toNat, 1024]
def k0_off10 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3093 : Index := Scalar.indexCast v2604
  let c1152_1542 : Index := 1152#32
  ![v3093.toNat, 1152]
def k0_off11 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3147 : Index := Scalar.indexCast v2604
  let c1280_1556 : Index := 1280#32
  ![v3147.toNat, 1280]
def k0_off12 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3201 : Index := Scalar.indexCast v2604
  let c1408_1570 : Index := 1408#32
  ![v3201.toNat, 1408]
def k0_off13 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3255 : Index := Scalar.indexCast v2604
  let c1536_1584 : Index := 1536#32
  ![v3255.toNat, 1536]
def k0_off14 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3309 : Index := Scalar.indexCast v2604
  let c1664_1598 : Index := 1664#32
  ![v3309.toNat, 1664]
def k0_off15 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3363 : Index := Scalar.indexCast v2604
  let c1792_1612 : Index := 1792#32
  ![v3363.toNat, 1792]
def k0_off16 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3417 : Index := Scalar.indexCast v2604
  let c1920_1626 : Index := 1920#32
  ![v3417.toNat, 1920]
def k0_off17 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3471 : Index := Scalar.indexCast v2604
  let c2048_1640 : Index := 2048#32
  ![v3471.toNat, 2048]
def k0_off18 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3525 : Index := Scalar.indexCast v2604
  let c2176_1654 : Index := 2176#32
  ![v3525.toNat, 2176]
def k0_off19 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3579 : Index := Scalar.indexCast v2604
  let c2304_1668 : Index := 2304#32
  ![v3579.toNat, 2304]
def k0_off20 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3633 : Index := Scalar.indexCast v2604
  let c2432_1682 : Index := 2432#32
  ![v3633.toNat, 2432]
def k0_off21 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3687 : Index := Scalar.indexCast v2604
  let c2560_1696 : Index := 2560#32
  ![v3687.toNat, 2560]
def k0_off22 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3741 : Index := Scalar.indexCast v2604
  let c2688_1710 : Index := 2688#32
  ![v3741.toNat, 2688]
def k0_off23 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3795 : Index := Scalar.indexCast v2604
  let c2816_1724 : Index := 2816#32
  ![v3795.toNat, 2816]
def k0_off24 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3849 : Index := Scalar.indexCast v2604
  let c2944_1738 : Index := 2944#32
  ![v3849.toNat, 2944]
def k0_off25 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3903 : Index := Scalar.indexCast v2604
  let c3072_1753 : Index := 3072#32
  ![v3903.toNat, 3072]
def k0_off26 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v3957 : Index := Scalar.indexCast v2604
  let c3200_1767 : Index := 3200#32
  ![v3957.toNat, 3200]
def k0_off27 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4011 : Index := Scalar.indexCast v2604
  let c3328_1781 : Index := 3328#32
  ![v4011.toNat, 3328]
def k0_off28 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4065 : Index := Scalar.indexCast v2604
  let c3456_1795 : Index := 3456#32
  ![v4065.toNat, 3456]
def k0_off29 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4119 : Index := Scalar.indexCast v2604
  let c3584_1809 : Index := 3584#32
  ![v4119.toNat, 3584]
def k0_off30 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4173 : Index := Scalar.indexCast v2604
  let c3712_1823 : Index := 3712#32
  ![v4173.toNat, 3712]
def k0_off31 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4227 : Index := Scalar.indexCast v2604
  let c3840_1837 : Index := 3840#32
  ![v4227.toNat, 3840]
def k0_off32 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4281 : Index := Scalar.indexCast v2604
  let c3968_1851 : Index := 3968#32
  ![v4281.toNat, 3968]
def k0_off33 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4335 : Index := Scalar.indexCast v2604
  let c4096_1865 : Index := 4096#32
  ![v4335.toNat, 4096]
def k0_off34 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4389 : Index := Scalar.indexCast v2604
  let c4224_1879 : Index := 4224#32
  ![v4389.toNat, 4224]
def k0_off35 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4443 : Index := Scalar.indexCast v2604
  let c4352_1893 : Index := 4352#32
  ![v4443.toNat, 4352]
def k0_off36 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4497 : Index := Scalar.indexCast v2604
  let c4480_1907 : Index := 4480#32
  ![v4497.toNat, 4480]
def k0_off37 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4551 : Index := Scalar.indexCast v2604
  let c4608_1921 : Index := 4608#32
  ![v4551.toNat, 4608]
def k0_off38 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4605 : Index := Scalar.indexCast v2604
  let c4736_1935 : Index := 4736#32
  ![v4605.toNat, 4736]
def k0_off39 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4659 : Index := Scalar.indexCast v2604
  let c4864_1949 : Index := 4864#32
  ![v4659.toNat, 4864]
def k0_off40 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4713 : Index := Scalar.indexCast v2604
  let c4992_1963 : Index := 4992#32
  ![v4713.toNat, 4992]
def k0_off41 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4767 : Index := Scalar.indexCast v2604
  let c5120_1977 : Index := 5120#32
  ![v4767.toNat, 5120]
def k0_off42 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4821 : Index := Scalar.indexCast v2604
  let c5248_1991 : Index := 5248#32
  ![v4821.toNat, 5248]
def k0_off43 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4875 : Index := Scalar.indexCast v2604
  let c5376_2005 : Index := 5376#32
  ![v4875.toNat, 5376]
def k0_off44 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4929 : Index := Scalar.indexCast v2604
  let c5504_2019 : Index := 5504#32
  ![v4929.toNat, 5504]
def k0_off45 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v4983 : Index := Scalar.indexCast v2604
  let c5632_2033 : Index := 5632#32
  ![v4983.toNat, 5632]
def k0_off46 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v5037 : Index := Scalar.indexCast v2604
  let c5760_2047 : Index := 5760#32
  ![v5037.toNat, 5760]
def k0_off47 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v5091 : Index := Scalar.indexCast v2604
  let c5888_2061 : Index := 5888#32
  ![v5091.toNat, 5888]
def k0_off48 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v5145 : Index := Scalar.indexCast v2604
  let c6016_2075 : Index := 6016#32
  ![v5145.toNat, 6016]
def k0_off49 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v5199 : Index := Scalar.indexCast v2604
  let c6144_2089 : Index := 6144#32
  ![v5199.toNat, 6144]
def k0_off50 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v5253 : Index := Scalar.indexCast v2604
  let c6272_2103 : Index := 6272#32
  ![v5253.toNat, 6272]
def k0_off51 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v5307 : Index := Scalar.indexCast v2604
  let c6400_2117 : Index := 6400#32
  ![v5307.toNat, 6400]
def k0_off52 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v5361 : Index := Scalar.indexCast v2604
  let c6528_2131 : Index := 6528#32
  ![v5361.toNat, 6528]
def k0_off53 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v5415 : Index := Scalar.indexCast v2604
  let c6656_2145 : Index := 6656#32
  ![v5415.toNat, 6656]
def k0_off54 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v5469 : Index := Scalar.indexCast v2604
  let c6784_2159 : Index := 6784#32
  ![v5469.toNat, 6784]
def k0_off55 (k0_t1 : Fin k0_t1_loop.trips) : Fin 2 → Nat :=
  let c0_i32_1412 : BitVec 32 := 0#32
  let c0_i32_1408 : BitVec 32 := 0#32
  let c1_i32_1409 : BitVec 32 := 1#32
  let arg10 : BitVec 32 := Scf.iv c0_i32_1408 c1_i32_1409 k0_t1
  let c1_i32_1411 : BitVec 32 := 1#32
  let v2601 : BitVec 32 := Scalar.muli arg10 c1_i32_1411
  let v2602 : BitVec 32 := Scalar.addi c0_i32_1412 v2601
  let c64_i32 : BitVec 32 := 64#32
  let v2603 : BitVec 32 := Scalar.muli v2602 c64_i32
  let v2604 : BitVec 32 := v2603
  let v5523 : Index := Scalar.indexCast v2604
  let c0_2173 : Index := 0#32
  ![v5523.toNat, 0]
def k0_off56 (i : grid0.Coords) (c0_i32_1 : BitVec 32) : Fin 2 → Nat :=
  let c0 : Index := 0#32
  let arg1 : BitVec 32 := BitVec.ofNat 32 (i 1).val
  let c4_i32 : BitVec 32 := 4#32
  let v3 : BitVec 32 := Scalar.muli arg1 c4_i32
  let v4 : BitVec 32 := Scalar.addi v3 c0_i32_1
  let v5 : Index := Scalar.indexCast v4
  ![0, v5.toNat]
def k0_off57 (i : grid0.Coords) (c0_i32_22 : BitVec 32) : Fin 2 → Nat :=
  let c1 : Index := 1#32
  let arg1 : BitVec 32 := BitVec.ofNat 32 (i 1).val
  let c4_i32_21 : BitVec 32 := 4#32
  let v51 : BitVec 32 := Scalar.muli arg1 c4_i32_21
  let v52 : BitVec 32 := Scalar.addi v51 c0_i32_22
  let v53 : Index := Scalar.indexCast v52
  ![1, v53.toNat]
def k0_off58 (i : grid0.Coords) (c0_i32_49 : BitVec 32) : Fin 2 → Nat :=
  let c2 : Index := 2#32
  let arg1 : BitVec 32 := BitVec.ofNat 32 (i 1).val
  let c4_i32_48 : BitVec 32 := 4#32
  let v99 : BitVec 32 := Scalar.muli arg1 c4_i32_48
  let v100 : BitVec 32 := Scalar.addi v99 c0_i32_49
  let v101 : Index := Scalar.indexCast v100
  ![2, v101.toNat]
def k0_off59 (i : grid0.Coords) (c0_i32_76 : BitVec 32) : Fin 2 → Nat :=
  let c3 : Index := 3#32
  let arg1 : BitVec 32 := BitVec.ofNat 32 (i 1).val
  let c4_i32_75 : BitVec 32 := 4#32
  let v147 : BitVec 32 := Scalar.muli arg1 c4_i32_75
  let v148 : BitVec 32 := Scalar.addi v147 c0_i32_76
  let v149 : Index := Scalar.indexCast v148
  ![3, v149.toNat]
def k0_off60 (i : grid0.Coords) (c0_i32_103 : BitVec 32) : Fin 2 → Nat :=
  let c4 : Index := 4#32
  let arg1 : BitVec 32 := BitVec.ofNat 32 (i 1).val
  let c4_i32_102 : BitVec 32 := 4#32
  let v195 : BitVec 32 := Scalar.muli arg1 c4_i32_102
  let v196 : BitVec 32 := Scalar.addi v195 c0_i32_103
  let v197 : Index := Scalar.indexCast v196
  ![4, v197.toNat]
def k0_off61 (i : grid0.Coords) (c0_i32_129 : BitVec 32) : Fin 2 → Nat :=
  let c5 : Index := 5#32
  let arg1 : BitVec 32 := BitVec.ofNat 32 (i 1).val
  let c4_i32_128 : BitVec 32 := 4#32
  let v243 : BitVec 32 := Scalar.muli arg1 c4_i32_128
  let v244 : BitVec 32 := Scalar.addi v243 c0_i32_129
  let v245 : Index := Scalar.indexCast v244
  ![5, v245.toNat]
def k0_off62 (i : grid0.Coords) (c0_i32_155 : BitVec 32) : Fin 2 → Nat :=
  let c6 : Index := 6#32
  let arg1 : BitVec 32 := BitVec.ofNat 32 (i 1).val
  let c4_i32_154 : BitVec 32 := 4#32
  let v291 : BitVec 32 := Scalar.muli arg1 c4_i32_154
  let v292 : BitVec 32 := Scalar.addi v291 c0_i32_155
  let v293 : Index := Scalar.indexCast v292
  ![6, v293.toNat]
def k0_off63 (i : grid0.Coords) (c0_i32_181 : BitVec 32) : Fin 2 → Nat :=
  let c7 : Index := 7#32
  let arg1 : BitVec 32 := BitVec.ofNat 32 (i 1).val
  let c4_i32_180 : BitVec 32 := 4#32
  let v339 : BitVec 32 := Scalar.muli arg1 c4_i32_180
  let v340 : BitVec 32 := Scalar.addi v339 c0_i32_181
  let v341 : Index := Scalar.indexCast v340
  ![7, v341.toNat]
def k0_off64 (i : grid0.Coords) (c0_i32_207 : BitVec 32) : Fin 2 → Nat :=
  let c8 : Index := 8#32
  let arg1 : BitVec 32 := BitVec.ofNat 32 (i 1).val
  let c4_i32_206 : BitVec 32 := 4#32
  let v387 : BitVec 32 := Scalar.muli arg1 c4_i32_206
  let v388 : BitVec 32 := Scalar.addi v387 c0_i32_207
  let v389 : Index := Scalar.indexCast v388
  ![8, v389.toNat]
def k0_off65 (i : grid0.Coords) (c0_i32_233 : BitVec 32) : Fin 2 → Nat :=
  let c9 : Index := 9#32
  let arg1 : BitVec 32 := BitVec.ofNat 32 (i 1).val
  let c4_i32_232 : BitVec 32 := 4#32
  let v435 : BitVec 32 := Scalar.muli arg1 c4_i32_232
  let v436 : BitVec 32 := Scalar.addi v435 c0_i32_233
  let v437 : Index := Scalar.indexCast v436
  ![9, v437.toNat]
def k0_off66 (i : grid0.Coords) (c0_i32_259 : BitVec 32) : Fin 2 → Nat :=
  let c10 : Index := 10#32
  let arg1 : BitVec 32 := BitVec.ofNat 32 (i 1).val
  let c4_i32_258 : BitVec 32 := 4#32
  let v483 : BitVec 32 := Scalar.muli arg1 c4_i32_258
  let v484 : BitVec 32 := Scalar.addi v483 c0_i32_259
  let v485 : Index := Scalar.indexCast v484
  ![10, v485.toNat]
def k0_off67 (i : grid0.Coords) (c0_i32_285 : BitVec 32) : Fin 2 → Nat :=
  let c11 : Index := 11#32
  let arg1 : BitVec 32 := BitVec.ofNat 32 (i 1).val
  let c4_i32_284 : BitVec 32 := 4#32
  let v531 : BitVec 32 := Scalar.muli arg1 c4_i32_284
  let v532 : BitVec 32 := Scalar.addi v531 c0_i32_285
  let v533 : Index := Scalar.indexCast v532
  ![11, v533.toNat]
def k0_off68 (i : grid0.Coords) (c0_i32_311 : BitVec 32) : Fin 2 → Nat :=
  let c12 : Index := 12#32
  let arg1 : BitVec 32 := BitVec.ofNat 32 (i 1).val
  let c4_i32_310 : BitVec 32 := 4#32
  let v579 : BitVec 32 := Scalar.muli arg1 c4_i32_310
  let v580 : BitVec 32 := Scalar.addi v579 c0_i32_311
  let v581 : Index := Scalar.indexCast v580
  ![12, v581.toNat]
def k0_off69 (i : grid0.Coords) (c0_i32_337 : BitVec 32) : Fin 2 → Nat :=
  let c13 : Index := 13#32
  let arg1 : BitVec 32 := BitVec.ofNat 32 (i 1).val
  let c4_i32_336 : BitVec 32 := 4#32
  let v627 : BitVec 32 := Scalar.muli arg1 c4_i32_336
  let v628 : BitVec 32 := Scalar.addi v627 c0_i32_337
  let v629 : Index := Scalar.indexCast v628
  ![13, v629.toNat]
def k0_off70 (i : grid0.Coords) (c0_i32_363 : BitVec 32) : Fin 2 → Nat :=
  let c14 : Index := 14#32
  let arg1 : BitVec 32 := BitVec.ofNat 32 (i 1).val
  let c4_i32_362 : BitVec 32 := 4#32
  let v675 : BitVec 32 := Scalar.muli arg1 c4_i32_362
  let v676 : BitVec 32 := Scalar.addi v675 c0_i32_363
  let v677 : Index := Scalar.indexCast v676
  ![14, v677.toNat]
def k0_off71 (i : grid0.Coords) (c0_i32_389 : BitVec 32) : Fin 2 → Nat :=
  let c15 : Index := 15#32
  let arg1 : BitVec 32 := BitVec.ofNat 32 (i 1).val
  let c4_i32_388 : BitVec 32 := 4#32
  let v723 : BitVec 32 := Scalar.muli arg1 c4_i32_388
  let v724 : BitVec 32 := Scalar.addi v723 c0_i32_389
  let v725 : Index := Scalar.indexCast v724
  ![15, v725.toNat]
def k0_off72 (i : grid0.Coords) (c0_i32_415 : BitVec 32) : Fin 2 → Nat :=
  let c16 : Index := 16#32
  let arg1 : BitVec 32 := BitVec.ofNat 32 (i 1).val
  let c4_i32_414 : BitVec 32 := 4#32
  let v771 : BitVec 32 := Scalar.muli arg1 c4_i32_414
  let v772 : BitVec 32 := Scalar.addi v771 c0_i32_415
  let v773 : Index := Scalar.indexCast v772
  ![16, v773.toNat]
def k0_off73 (i : grid0.Coords) (c0_i32_441 : BitVec 32) : Fin 2 → Nat :=
  let c17 : Index := 17#32
  let arg1 : BitVec 32 := BitVec.ofNat 32 (i 1).val
  let c4_i32_440 : BitVec 32 := 4#32
  let v819 : BitVec 32 := Scalar.muli arg1 c4_i32_440
  let v820 : BitVec 32 := Scalar.addi v819 c0_i32_441
  let v821 : Index := Scalar.indexCast v820
  ![17, v821.toNat]
def k0_off74 (i : grid0.Coords) (c0_i32_467 : BitVec 32) : Fin 2 → Nat :=
  let c18 : Index := 18#32
  let arg1 : BitVec 32 := BitVec.ofNat 32 (i 1).val
  let c4_i32_466 : BitVec 32 := 4#32
  let v867 : BitVec 32 := Scalar.muli arg1 c4_i32_466
  let v868 : BitVec 32 := Scalar.addi v867 c0_i32_467
  let v869 : Index := Scalar.indexCast v868
  ![18, v869.toNat]
def k0_off75 (i : grid0.Coords) (c0_i32_493 : BitVec 32) : Fin 2 → Nat :=
  let c19 : Index := 19#32
  let arg1 : BitVec 32 := BitVec.ofNat 32 (i 1).val
  let c4_i32_492 : BitVec 32 := 4#32
  let v915 : BitVec 32 := Scalar.muli arg1 c4_i32_492
  let v916 : BitVec 32 := Scalar.addi v915 c0_i32_493
  let v917 : Index := Scalar.indexCast v916
  ![19, v917.toNat]
def k0_off76 (i : grid0.Coords) (c0_i32_519 : BitVec 32) : Fin 2 → Nat :=
  let c20 : Index := 20#32
  let arg1 : BitVec 32 := BitVec.ofNat 32 (i 1).val
  let c4_i32_518 : BitVec 32 := 4#32
  let v963 : BitVec 32 := Scalar.muli arg1 c4_i32_518
  let v964 : BitVec 32 := Scalar.addi v963 c0_i32_519
  let v965 : Index := Scalar.indexCast v964
  ![20, v965.toNat]
def k0_off77 (i : grid0.Coords) (c0_i32_545 : BitVec 32) : Fin 2 → Nat :=
  let c21 : Index := 21#32
  let arg1 : BitVec 32 := BitVec.ofNat 32 (i 1).val
  let c4_i32_544 : BitVec 32 := 4#32
  let v1011 : BitVec 32 := Scalar.muli arg1 c4_i32_544
  let v1012 : BitVec 32 := Scalar.addi v1011 c0_i32_545
  let v1013 : Index := Scalar.indexCast v1012
  ![21, v1013.toNat]
def k0_off78 (i : grid0.Coords) (c0_i32_571 : BitVec 32) : Fin 2 → Nat :=
  let c22 : Index := 22#32
  let arg1 : BitVec 32 := BitVec.ofNat 32 (i 1).val
  let c4_i32_570 : BitVec 32 := 4#32
  let v1059 : BitVec 32 := Scalar.muli arg1 c4_i32_570
  let v1060 : BitVec 32 := Scalar.addi v1059 c0_i32_571
  let v1061 : Index := Scalar.indexCast v1060
  ![22, v1061.toNat]
def k0_off79 (i : grid0.Coords) (c0_i32_597 : BitVec 32) : Fin 2 → Nat :=
  let c23 : Index := 23#32
  let arg1 : BitVec 32 := BitVec.ofNat 32 (i 1).val
  let c4_i32_596 : BitVec 32 := 4#32
  let v1107 : BitVec 32 := Scalar.muli arg1 c4_i32_596
  let v1108 : BitVec 32 := Scalar.addi v1107 c0_i32_597
  let v1109 : Index := Scalar.indexCast v1108
  ![23, v1109.toNat]
def k0_off80 (i : grid0.Coords) (c0_i32_623 : BitVec 32) : Fin 2 → Nat :=
  let c24 : Index := 24#32
  let arg1 : BitVec 32 := BitVec.ofNat 32 (i 1).val
  let c4_i32_622 : BitVec 32 := 4#32
  let v1155 : BitVec 32 := Scalar.muli arg1 c4_i32_622
  let v1156 : BitVec 32 := Scalar.addi v1155 c0_i32_623
  let v1157 : Index := Scalar.indexCast v1156
  ![24, v1157.toNat]
def k0_off81 (i : grid0.Coords) (c0_i32_649 : BitVec 32) : Fin 2 → Nat :=
  let c25 : Index := 25#32
  let arg1 : BitVec 32 := BitVec.ofNat 32 (i 1).val
  let c4_i32_648 : BitVec 32 := 4#32
  let v1203 : BitVec 32 := Scalar.muli arg1 c4_i32_648
  let v1204 : BitVec 32 := Scalar.addi v1203 c0_i32_649
  let v1205 : Index := Scalar.indexCast v1204
  ![25, v1205.toNat]
def k0_off82 (i : grid0.Coords) (c0_i32_675 : BitVec 32) : Fin 2 → Nat :=
  let c26 : Index := 26#32
  let arg1 : BitVec 32 := BitVec.ofNat 32 (i 1).val
  let c4_i32_674 : BitVec 32 := 4#32
  let v1251 : BitVec 32 := Scalar.muli arg1 c4_i32_674
  let v1252 : BitVec 32 := Scalar.addi v1251 c0_i32_675
  let v1253 : Index := Scalar.indexCast v1252
  ![26, v1253.toNat]
def k0_off83 (i : grid0.Coords) (c0_i32_701 : BitVec 32) : Fin 2 → Nat :=
  let c27 : Index := 27#32
  let arg1 : BitVec 32 := BitVec.ofNat 32 (i 1).val
  let c4_i32_700 : BitVec 32 := 4#32
  let v1299 : BitVec 32 := Scalar.muli arg1 c4_i32_700
  let v1300 : BitVec 32 := Scalar.addi v1299 c0_i32_701
  let v1301 : Index := Scalar.indexCast v1300
  ![27, v1301.toNat]
def k0_off84 (i : grid0.Coords) (c0_i32_727 : BitVec 32) : Fin 2 → Nat :=
  let c28 : Index := 28#32
  let arg1 : BitVec 32 := BitVec.ofNat 32 (i 1).val
  let c4_i32_726 : BitVec 32 := 4#32
  let v1347 : BitVec 32 := Scalar.muli arg1 c4_i32_726
  let v1348 : BitVec 32 := Scalar.addi v1347 c0_i32_727
  let v1349 : Index := Scalar.indexCast v1348
  ![28, v1349.toNat]
def k0_off85 (i : grid0.Coords) (c0_i32_753 : BitVec 32) : Fin 2 → Nat :=
  let c29 : Index := 29#32
  let arg1 : BitVec 32 := BitVec.ofNat 32 (i 1).val
  let c4_i32_752 : BitVec 32 := 4#32
  let v1395 : BitVec 32 := Scalar.muli arg1 c4_i32_752
  let v1396 : BitVec 32 := Scalar.addi v1395 c0_i32_753
  let v1397 : Index := Scalar.indexCast v1396
  ![29, v1397.toNat]
def k0_off86 (i : grid0.Coords) (c0_i32_779 : BitVec 32) : Fin 2 → Nat :=
  let c30 : Index := 30#32
  let arg1 : BitVec 32 := BitVec.ofNat 32 (i 1).val
  let c4_i32_778 : BitVec 32 := 4#32
  let v1443 : BitVec 32 := Scalar.muli arg1 c4_i32_778
  let v1444 : BitVec 32 := Scalar.addi v1443 c0_i32_779
  let v1445 : Index := Scalar.indexCast v1444
  ![30, v1445.toNat]
def k0_off87 (i : grid0.Coords) (c0_i32_805 : BitVec 32) : Fin 2 → Nat :=
  let c31 : Index := 31#32
  let arg1 : BitVec 32 := BitVec.ofNat 32 (i 1).val
  let c4_i32_804 : BitVec 32 := 4#32
  let v1491 : BitVec 32 := Scalar.muli arg1 c4_i32_804
  let v1492 : BitVec 32 := Scalar.addi v1491 c0_i32_805
  let v1493 : Index := Scalar.indexCast v1492
  ![31, v1493.toNat]
def k0_off88 (i : grid0.Coords) (c0_i32_831 : BitVec 32) : Fin 2 → Nat :=
  let c32 : Index := 32#32
  let arg1 : BitVec 32 := BitVec.ofNat 32 (i 1).val
  let c4_i32_830 : BitVec 32 := 4#32
  let v1539 : BitVec 32 := Scalar.muli arg1 c4_i32_830
  let v1540 : BitVec 32 := Scalar.addi v1539 c0_i32_831
  let v1541 : Index := Scalar.indexCast v1540
  ![32, v1541.toNat]
def k0_off89 (i : grid0.Coords) (c0_i32_857 : BitVec 32) : Fin 2 → Nat :=
  let c33 : Index := 33#32
  let arg1 : BitVec 32 := BitVec.ofNat 32 (i 1).val
  let c4_i32_856 : BitVec 32 := 4#32
  let v1587 : BitVec 32 := Scalar.muli arg1 c4_i32_856
  let v1588 : BitVec 32 := Scalar.addi v1587 c0_i32_857
  let v1589 : Index := Scalar.indexCast v1588
  ![33, v1589.toNat]
def k0_off90 (i : grid0.Coords) (c0_i32_883 : BitVec 32) : Fin 2 → Nat :=
  let c34 : Index := 34#32
  let arg1 : BitVec 32 := BitVec.ofNat 32 (i 1).val
  let c4_i32_882 : BitVec 32 := 4#32
  let v1635 : BitVec 32 := Scalar.muli arg1 c4_i32_882
  let v1636 : BitVec 32 := Scalar.addi v1635 c0_i32_883
  let v1637 : Index := Scalar.indexCast v1636
  ![34, v1637.toNat]
def k0_off91 (i : grid0.Coords) (c0_i32_909 : BitVec 32) : Fin 2 → Nat :=
  let c35 : Index := 35#32
  let arg1 : BitVec 32 := BitVec.ofNat 32 (i 1).val
  let c4_i32_908 : BitVec 32 := 4#32
  let v1683 : BitVec 32 := Scalar.muli arg1 c4_i32_908
  let v1684 : BitVec 32 := Scalar.addi v1683 c0_i32_909
  let v1685 : Index := Scalar.indexCast v1684
  ![35, v1685.toNat]
def k0_off92 (i : grid0.Coords) (c0_i32_935 : BitVec 32) : Fin 2 → Nat :=
  let c36 : Index := 36#32
  let arg1 : BitVec 32 := BitVec.ofNat 32 (i 1).val
  let c4_i32_934 : BitVec 32 := 4#32
  let v1731 : BitVec 32 := Scalar.muli arg1 c4_i32_934
  let v1732 : BitVec 32 := Scalar.addi v1731 c0_i32_935
  let v1733 : Index := Scalar.indexCast v1732
  ![36, v1733.toNat]
def k0_off93 (i : grid0.Coords) (c0_i32_961 : BitVec 32) : Fin 2 → Nat :=
  let c37 : Index := 37#32
  let arg1 : BitVec 32 := BitVec.ofNat 32 (i 1).val
  let c4_i32_960 : BitVec 32 := 4#32
  let v1779 : BitVec 32 := Scalar.muli arg1 c4_i32_960
  let v1780 : BitVec 32 := Scalar.addi v1779 c0_i32_961
  let v1781 : Index := Scalar.indexCast v1780
  ![37, v1781.toNat]
def k0_off94 (i : grid0.Coords) (c0_i32_987 : BitVec 32) : Fin 2 → Nat :=
  let c38 : Index := 38#32
  let arg1 : BitVec 32 := BitVec.ofNat 32 (i 1).val
  let c4_i32_986 : BitVec 32 := 4#32
  let v1827 : BitVec 32 := Scalar.muli arg1 c4_i32_986
  let v1828 : BitVec 32 := Scalar.addi v1827 c0_i32_987
  let v1829 : Index := Scalar.indexCast v1828
  ![38, v1829.toNat]
def k0_off95 (i : grid0.Coords) (c0_i32_1013 : BitVec 32) : Fin 2 → Nat :=
  let c39 : Index := 39#32
  let arg1 : BitVec 32 := BitVec.ofNat 32 (i 1).val
  let c4_i32_1012 : BitVec 32 := 4#32
  let v1875 : BitVec 32 := Scalar.muli arg1 c4_i32_1012
  let v1876 : BitVec 32 := Scalar.addi v1875 c0_i32_1013
  let v1877 : Index := Scalar.indexCast v1876
  ![39, v1877.toNat]
def k0_off96 (i : grid0.Coords) (c0_i32_1039 : BitVec 32) : Fin 2 → Nat :=
  let c40 : Index := 40#32
  let arg1 : BitVec 32 := BitVec.ofNat 32 (i 1).val
  let c4_i32_1038 : BitVec 32 := 4#32
  let v1923 : BitVec 32 := Scalar.muli arg1 c4_i32_1038
  let v1924 : BitVec 32 := Scalar.addi v1923 c0_i32_1039
  let v1925 : Index := Scalar.indexCast v1924
  ![40, v1925.toNat]
def k0_off97 (i : grid0.Coords) (c0_i32_1065 : BitVec 32) : Fin 2 → Nat :=
  let c41 : Index := 41#32
  let arg1 : BitVec 32 := BitVec.ofNat 32 (i 1).val
  let c4_i32_1064 : BitVec 32 := 4#32
  let v1971 : BitVec 32 := Scalar.muli arg1 c4_i32_1064
  let v1972 : BitVec 32 := Scalar.addi v1971 c0_i32_1065
  let v1973 : Index := Scalar.indexCast v1972
  ![41, v1973.toNat]
def k0_off98 (i : grid0.Coords) (c0_i32_1091 : BitVec 32) : Fin 2 → Nat :=
  let c42 : Index := 42#32
  let arg1 : BitVec 32 := BitVec.ofNat 32 (i 1).val
  let c4_i32_1090 : BitVec 32 := 4#32
  let v2019 : BitVec 32 := Scalar.muli arg1 c4_i32_1090
  let v2020 : BitVec 32 := Scalar.addi v2019 c0_i32_1091
  let v2021 : Index := Scalar.indexCast v2020
  ![42, v2021.toNat]
def k0_off99 (i : grid0.Coords) (c0_i32_1117 : BitVec 32) : Fin 2 → Nat :=
  let c43 : Index := 43#32
  let arg1 : BitVec 32 := BitVec.ofNat 32 (i 1).val
  let c4_i32_1116 : BitVec 32 := 4#32
  let v2067 : BitVec 32 := Scalar.muli arg1 c4_i32_1116
  let v2068 : BitVec 32 := Scalar.addi v2067 c0_i32_1117
  let v2069 : Index := Scalar.indexCast v2068
  ![43, v2069.toNat]
def k0_off100 (i : grid0.Coords) (c0_i32_1143 : BitVec 32) : Fin 2 → Nat :=
  let c44 : Index := 44#32
  let arg1 : BitVec 32 := BitVec.ofNat 32 (i 1).val
  let c4_i32_1142 : BitVec 32 := 4#32
  let v2115 : BitVec 32 := Scalar.muli arg1 c4_i32_1142
  let v2116 : BitVec 32 := Scalar.addi v2115 c0_i32_1143
  let v2117 : Index := Scalar.indexCast v2116
  ![44, v2117.toNat]
def k0_off101 (i : grid0.Coords) (c0_i32_1169 : BitVec 32) : Fin 2 → Nat :=
  let c45 : Index := 45#32
  let arg1 : BitVec 32 := BitVec.ofNat 32 (i 1).val
  let c4_i32_1168 : BitVec 32 := 4#32
  let v2163 : BitVec 32 := Scalar.muli arg1 c4_i32_1168
  let v2164 : BitVec 32 := Scalar.addi v2163 c0_i32_1169
  let v2165 : Index := Scalar.indexCast v2164
  ![45, v2165.toNat]
def k0_off102 (i : grid0.Coords) (c0_i32_1195 : BitVec 32) : Fin 2 → Nat :=
  let c46 : Index := 46#32
  let arg1 : BitVec 32 := BitVec.ofNat 32 (i 1).val
  let c4_i32_1194 : BitVec 32 := 4#32
  let v2211 : BitVec 32 := Scalar.muli arg1 c4_i32_1194
  let v2212 : BitVec 32 := Scalar.addi v2211 c0_i32_1195
  let v2213 : Index := Scalar.indexCast v2212
  ![46, v2213.toNat]
def k0_off103 (i : grid0.Coords) (c0_i32_1221 : BitVec 32) : Fin 2 → Nat :=
  let c47 : Index := 47#32
  let arg1 : BitVec 32 := BitVec.ofNat 32 (i 1).val
  let c4_i32_1220 : BitVec 32 := 4#32
  let v2259 : BitVec 32 := Scalar.muli arg1 c4_i32_1220
  let v2260 : BitVec 32 := Scalar.addi v2259 c0_i32_1221
  let v2261 : Index := Scalar.indexCast v2260
  ![47, v2261.toNat]
def k0_off104 (i : grid0.Coords) (c0_i32_1247 : BitVec 32) : Fin 2 → Nat :=
  let c48 : Index := 48#32
  let arg1 : BitVec 32 := BitVec.ofNat 32 (i 1).val
  let c4_i32_1246 : BitVec 32 := 4#32
  let v2307 : BitVec 32 := Scalar.muli arg1 c4_i32_1246
  let v2308 : BitVec 32 := Scalar.addi v2307 c0_i32_1247
  let v2309 : Index := Scalar.indexCast v2308
  ![48, v2309.toNat]
def k0_off105 (i : grid0.Coords) (c0_i32_1273 : BitVec 32) : Fin 2 → Nat :=
  let c49 : Index := 49#32
  let arg1 : BitVec 32 := BitVec.ofNat 32 (i 1).val
  let c4_i32_1272 : BitVec 32 := 4#32
  let v2355 : BitVec 32 := Scalar.muli arg1 c4_i32_1272
  let v2356 : BitVec 32 := Scalar.addi v2355 c0_i32_1273
  let v2357 : Index := Scalar.indexCast v2356
  ![49, v2357.toNat]
def k0_off106 (i : grid0.Coords) (c0_i32_1299 : BitVec 32) : Fin 2 → Nat :=
  let c50 : Index := 50#32
  let arg1 : BitVec 32 := BitVec.ofNat 32 (i 1).val
  let c4_i32_1298 : BitVec 32 := 4#32
  let v2403 : BitVec 32 := Scalar.muli arg1 c4_i32_1298
  let v2404 : BitVec 32 := Scalar.addi v2403 c0_i32_1299
  let v2405 : Index := Scalar.indexCast v2404
  ![50, v2405.toNat]
def k0_off107 (i : grid0.Coords) (c0_i32_1325 : BitVec 32) : Fin 2 → Nat :=
  let c51 : Index := 51#32
  let arg1 : BitVec 32 := BitVec.ofNat 32 (i 1).val
  let c4_i32_1324 : BitVec 32 := 4#32
  let v2451 : BitVec 32 := Scalar.muli arg1 c4_i32_1324
  let v2452 : BitVec 32 := Scalar.addi v2451 c0_i32_1325
  let v2453 : Index := Scalar.indexCast v2452
  ![51, v2453.toNat]
def k0_off108 (i : grid0.Coords) (c0_i32_1351 : BitVec 32) : Fin 2 → Nat :=
  let c52 : Index := 52#32
  let arg1 : BitVec 32 := BitVec.ofNat 32 (i 1).val
  let c4_i32_1350 : BitVec 32 := 4#32
  let v2499 : BitVec 32 := Scalar.muli arg1 c4_i32_1350
  let v2500 : BitVec 32 := Scalar.addi v2499 c0_i32_1351
  let v2501 : Index := Scalar.indexCast v2500
  ![52, v2501.toNat]
def k0_off109 (i : grid0.Coords) (c0_i32_1377 : BitVec 32) : Fin 2 → Nat :=
  let c53 : Index := 53#32
  let arg1 : BitVec 32 := BitVec.ofNat 32 (i 1).val
  let c4_i32_1376 : BitVec 32 := 4#32
  let v2547 : BitVec 32 := Scalar.muli arg1 c4_i32_1376
  let v2548 : BitVec 32 := Scalar.addi v2547 c0_i32_1377
  let v2549 : Index := Scalar.indexCast v2548
  ![53, v2549.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S54x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6912x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x6912 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x54 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x2048x6912 : Shape := ⟨3, ![8, 2048, 6912]⟩
abbrev S6912x4096 : Shape := ⟨2, ![6912, 4096]⟩
abbrev S54x32 : Shape := ⟨2, ![54, 32]⟩
abbrev S16384x6912 : Shape := ⟨2, ![16384, 6912]⟩
abbrev S16384x4096 : Shape := ⟨2, ![16384, 4096]⟩
abbrev S16384x54 : Shape := ⟨2, ![16384, 54]⟩
abbrev S16384x54x128 : Shape := ⟨3, ![16384, 54, 128]⟩
abbrev S16384x54x1 : Shape := ⟨3, ![16384, 54, 1]⟩
abbrev S54x128x32x128 : Shape := ⟨4, ![54, 128, 32, 128]⟩
abbrev S54x1x32x1 : Shape := ⟨4, ![54, 1, 32, 1]⟩

abbrev nBuf : Space → Nat
  | .hbm => 7
  | .vmem => 6
  | .smem => 0
  | _ => 0

abbrev bufTy : (tb : Table) → Fin (tcTables nBuf tb) → BufTy
  | .hbm, ⟨0, _⟩ => ⟨S8x2048x6912, .bf16⟩
  | .hbm, ⟨1, _⟩ => ⟨S6912x4096, .fp8e4m3⟩
  | .hbm, ⟨2, _⟩ => ⟨S54x32, .f32⟩
  | .hbm, ⟨3, _⟩ => ⟨S16384x6912, .bf16⟩
  | .hbm, ⟨4, _⟩ => ⟨S16384x4096, .bf16⟩
  | .hbm, ⟨5, _⟩ => ⟨S16384x6912, .fp8e4m3⟩
  | .hbm, ⟨6, _⟩ => ⟨S16384x54, .f32⟩
  | .local _ .vmem, ⟨0, _⟩ => ⟨S16384x6912, .bf16⟩
  | .local _ .vmem, ⟨1, _⟩ => ⟨S6912x4096, .fp8e4m3⟩
  | .local _ .vmem, ⟨2, _⟩ => ⟨S54x32, .f32⟩
  | .local _ .vmem, ⟨3, _⟩ => ⟨S16384x4096, .bf16⟩
  | .local _ .vmem, ⟨4, _⟩ => ⟨S16384x6912, .fp8e4m3⟩
  | .local _ .vmem, ⟨5, _⟩ => ⟨S16384x54, .f32⟩
  | _, _ => ⟨S8x2048x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x6912 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6912x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S54x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x6912 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x54 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
module

public import proofs.«01_k».proof.Proof.Gen.Kernel.Frame
public import proofs.«01_k».proof.Proof.Gen.Kernel.Loops
public import Idealize.ShloMosaic.Lib.Claim

@[expose] public section

/-!
# The kernel runs

The printed kernel terminates without a fault, leaves its arguments as they were and ends with every semaphore counter at
zero. What it writes into its results is not named here.
-/

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      (Pipeline.RDat.FramePost.arr_in h c 0 rfl).trans ((hA c 0).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S54x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x6912 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6912x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x6912 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x54 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x6912 .bf16 := Memref.whole cc0_scratch0
abbrev scM0_1 : Memref sig .tc .vmem S6912x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 7608000 in
/-- The body's triple IN CASE A (`scf.if` 0 taken: points 0, 8, … 248: 32 of 256): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .smem S54x32 .f32) (harg2 : arg2.IsWhole) (arg3 : Memref sig .tc .vmem S512x6912 .bf16) (harg3 : arg3.IsWhole) (arg4 : Memref sig .tc .vmem S6912x512 .fp8e4m3) (harg4 : arg4.IsWhole) (arg5 : Memref sig .tc .vmem S512x512 .bf16) (harg5 : arg5.IsWhole) (arg6 : Memref sig .tc .vmem S512x6912 .fp8e4m3) (harg6 : arg6.IsWhole) (arg7 : Memref sig .tc .vmem S512x54 .f32) (harg7 : arg7.IsWhole) (arg8 : Memref sig .tc .vmem S512x6912 .bf16) (harg8 : arg8.IsWhole) (arg9 : Memref sig .tc .vmem S6912x512 .bf16) (harg9 : arg9.IsWhole) (hc0 : cond0_0 i)
    (x0 : Vec F S54x32 .f32) (x1 : Vec F S512x6912 .bf16) (x2 : Vec F S6912x512 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_fp8_linear i arg2 harg2 arg3 harg3 arg4 harg4 arg5 harg5 arg6 harg6 arg7 harg7 arg8 harg8 arg9 harg9) K := by
    intro E K
    simp only [cc0_fp8_linear_eq_skeleton]; unfold cc0_fp8_linear_skel
    simp only [k0_part138_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

-- (the run's proof term is large: checking it walks past the default budget)
set_option maxHeartbeats 7544000 in
/-- The body's triple IN CASE B (`scf.if` 0 not taken: points 1, 2, … 255: 224 of 256): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .smem S54x32 .f32) (harg2 : arg2.IsWhole) (arg3 : Memref sig .tc .vmem S512x6912 .bf16) (harg3 : arg3.IsWhole) (arg4 : Memref sig .tc .vmem S6912x512 .fp8e4m3) (harg4 : arg4.IsWhole) (arg5 : Memref sig .tc .vmem S512x512 .bf16) (harg5 : arg5.IsWhole) (arg6 : Memref sig .tc .vmem S512x6912 .fp8e4m3) (harg6 : arg6.IsWhole) (arg7 : Memref sig .tc .vmem S512x54 .f32) (harg7 : arg7.IsWhole) (arg8 : Memref sig .tc .vmem S512x6912 .bf16) (harg8 : arg8.IsWhole) (arg9 : Memref sig .tc .vmem S6912x512 .bf16) (harg9 : arg9.IsWhole) (hc0 : ¬cond0_0 i)
    (x0 : Vec F S54x32 .f32) (x1 : Vec F S512x6912 .bf16) (x2 : Vec F S6912x512 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_fp8_linear i arg2 harg2 arg3 harg3 arg4 harg4 arg5 harg5 arg6 harg6 arg7 harg7 arg8 harg8 arg9 harg9) K := by
    intro E K
    simp only [cc0_fp8_linear_eq_skeleton]; unfold cc0_fp8_linear_skel
    simp only [k0_part138_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 256 := lt_of_lt_of_eq t.isLt (show cfg0.N = 256 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_rel m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run

end
-- ==== Proof.Pieces.lean ====
module

public import proofs.«01_k».proof.Proof.Gen.KernelIdeal
public import Idealize.ShloMosaic.Lib.Pipeline.FrameBody

@[expose] public section

/-!
# What a list of stores leaves in a buffer

`Tiles G D L`: every store of the list `L` writes the values of one function `G` at the places it writes, and the stores
together reach every place of `D`. Then a buffer that has received them reads `G` at every place of `D`.
-/

set_option maxRecDepth 16384

noncomputable section

namespace Cert.Quant

open Idealize.ShloMosaic

section Generic

variable {s : Shape} {e : EltTy} {Val : EltTy → Type}

/-- Every store of `L` writes values of `G`, and the stores reach every place of `D`. -/
def Tiles (G : s.Idx → Val e) (D : s.Idx → Prop) (L : List (View.Piece Val s e)) : Prop :=
  (∀ p ∈ L, ∀ x : p.1.shape.Idx, p.2 x = G (p.1.emb x)) ∧ ∀ i, D i → ∃ p ∈ L, i ∈ p.1.set

/-- No store reaches no place. -/
theorem Tiles.nil (G : s.Idx → Val e) (D : s.Idx → Prop) (h : ∀ i, ¬ D i) : Tiles G D [] :=
  ⟨fun _ hp => absurd hp List.not_mem_nil, fun i hi => absurd hi (h i)⟩

/-- One more store of values of `G` adds the places it writes. -/
theorem Tiles.cons {G : s.Idx → Val e} {D D' : s.Idx → Prop} {L : List (View.Piece Val s e)} {r : Rect s}
    {w : r.shape.Idx → Val e} (hL : Tiles G D L) (hw : ∀ x, w x = G (r.emb x)) (hD : ∀ i, D' i → D i ∨ i ∈ r.set) :
    Tiles G D' (⟨r, w⟩ :: L) := by
  refine ⟨fun p hp => ?_, fun i hi => ?_⟩
  · rcases List.mem_cons.mp hp with rfl | hp
    · exact hw
    · exact hL.1 p hp
  · rcases hD i hi with h | h
    · obtain ⟨p, hp, hip⟩ := hL.2 i h
      exact ⟨p, List.mem_cons_of_mem _ hp, hip⟩
    · exact ⟨_, List.mem_cons_self, h⟩

/-- Fewer places to reach. -/
theorem Tiles.mono {G : s.Idx → Val e} {D D' : s.Idx → Prop} {L : List (View.Piece Val s e)} (hL : Tiles G D L)
    (h : ∀ i, D' i → D i) : Tiles G D' L := ⟨hL.1, fun i hi => hL.2 i (h i hi)⟩

/-- Through the buffer: at a place of `D` it reads `G`, elsewhere `G` or what it held before. -/
theorem Tiles.read {sig : RefSig} {κ : Kind} {sp : Space} (v : View sig κ sp s e) (f : v.ty.Contents Val)
    (G : s.Idx → Val e) (i : s.Idx) : ∀ L : List (View.Piece Val s e),
    (∀ p ∈ L, ∀ x : p.1.shape.Idx, p.2 x = G (p.1.emb x)) →
    ((∃ p ∈ L, i ∈ p.1.set) ∨ v.read Val f i = G i) → v.read Val (v.writes Val f L) i = G i
  | [], _, h => by
    rcases h with ⟨_, hm, _⟩ | h
    · exact absurd hm List.not_mem_nil
    · exact h
  | ⟨r, w⟩ :: L, hP, h => by
    by_cases hy : i ∈ r.set
    · obtain ⟨x, rfl⟩ : ∃ x, r.emb x = i := r.exists_idx_of_mem hy
      rw [View.read_writes_cons_emb]
      exact hP _ List.mem_cons_self x
    · have hy' : i ∉ Finset.univ.map r.emb := by rwa [Rect.map_emb_univ]
      rw [View.writes_cons, View.read_slice_write_of_not_mem r _ _ _ hy']
      refine Tiles.read v f G i L (fun q hq => hP q (List.mem_cons_of_mem _ hq)) ?_
      rcases h with ⟨q, hq, hyq⟩ | h
      · rcases List.mem_cons.mp hq with rfl | hq'
        · exact absurd hyq hy
        · exact .inl ⟨q, hq', hyq⟩
      · exact .inr h

end Generic

section Rows

variable {m w : ℕ} {e : EltTy} {Val : EltTy → Type}

/-- The array `f` agrees with `G` on the rows below `n`. -/
def Upto (G : (⟨2, ![m, w]⟩ : Shape).Idx → Val e) (n : ℕ) (f : (⟨2, ![m, w]⟩ : Shape).Idx → Val e) : Prop :=
  ∀ i, (i 0).val < n → f i = G i

/-- Stores that reach the rows from `a` to `b` carry agreement below `a` to agreement below `b`. -/
theorem Upto.step {sig : RefSig} {κ : Kind} {sp : Space} {v : View sig κ sp (⟨2, ![m, w]⟩ : Shape) e}
    {f : v.ty.Contents Val} {G : (⟨2, ![m, w]⟩ : Shape).Idx → Val e} {a b : ℕ}
    {L : List (View.Piece Val (⟨2, ![m, w]⟩ : Shape) e)} (h : Upto G a (v.read Val f))
    (hL : Tiles G (fun i => a ≤ (i 0).val ∧ (i 0).val < b) L) : Upto G b (v.read Val (v.writes Val f L)) := by
  intro i hi
  refine Tiles.read v f G i L hL.1 ?_
  by_cases ha : a ≤ (i 0).val
  · exact .inl (hL.2 i ⟨ha, hi⟩)
  · exact .inr (h i (by omega))

/-- The places of one band of rows whose column is below `128 * n`. -/
def Band (r h n : ℕ) (i : (⟨2, ![m, w]⟩ : Shape).Idx) : Prop := (r ≤ (i 0).val ∧ (i 0).val < r + h) ∧ (i 1).val < 128 * n

/-- A store of the next 128 columns of a band. -/
theorem Tiles.band {G : (⟨2, ![m, w]⟩ : Shape).Idx → Val e} {r h n : ℕ} {L : List (View.Piece Val (⟨2, ![m, w]⟩ : Shape) e)}
    {off : Fin 2 → ℕ} {hb : ∀ a, off a + (![h, 128] : Fin 2 → ℕ) a ≤ (⟨2, ![m, w]⟩ : Shape).size a}
    {p : (Rect.unit (s := ⟨2, ![m, w]⟩) off ![h, 128] hb).shape.Idx → Val e} (hL : Tiles G (Band r h n) L)
    (ho : off = ![r, 128 * n]) (hw : ∀ x, p x = G ((Rect.unit (s := ⟨2, ![m, w]⟩) off ![h, 128] hb).emb x)) :
    Tiles G (Band r h (n + 1)) (⟨Rect.unit off ![h, 128] hb, p⟩ :: L) := by
  refine hL.cons hw fun i hi => ?_
  obtain ⟨h0, h1⟩ := hi
  by_cases h2 : (i 1).val < 128 * n
  · exact .inl ⟨h0, h2⟩
  · refine .inr ?_
    subst ho
    rw [Rect.mem_set_unit]
    intro a
    match a with
    | 0 => exact h0
    | 1 => exact ⟨Nat.not_lt.mp h2, by show (i 1).val < 128 * n + 128; omega⟩

/-- The places of the first `n` tiles of 128 by 128, four tiles to a row of tiles. -/
def Tile4 (n : ℕ) (i : (⟨2, ![m, w]⟩ : Shape).Idx) : Prop := 4 * ((i 0).val / 128) + (i 1).val / 128 < n

/-- A store of the next tile. -/
theorem Tiles.tile4 {G : (⟨2, ![m, w]⟩ : Shape).Idx → Val e} {n a b : ℕ} {L : List (View.Piece Val (⟨2, ![m, w]⟩ : Shape) e)}
    {off : Fin 2 → ℕ} {hb : ∀ a, off a + (![128, 128] : Fin 2 → ℕ) a ≤ (⟨2, ![m, w]⟩ : Shape).size a}
    {p : (Rect.unit (s := ⟨2, ![m, w]⟩) off ![128, 128] hb).shape.Idx → Val e} (hm : w ≤ 512) (hL : Tiles G (Tile4 n) L)
    (ho : off = ![128 * a, 128 * b]) (hn : n = 4 * a + b ∧ b < 4)
    (hw : ∀ x, p x = G ((Rect.unit (s := ⟨2, ![m, w]⟩) off ![128, 128] hb).emb x)) :
    Tiles G (Tile4 (n + 1)) (⟨Rect.unit off ![128, 128] hb, p⟩ :: L) := by
  refine hL.cons hw fun i hi => ?_
  have h1 : (i 1).val < w := (i 1).isLt
  by_cases h2 : 4 * ((i 0).val / 128) + (i 1).val / 128 < n
  · exact .inl h2
  · refine .inr ?_
    have hi : 4 * ((i 0).val / 128) + (i 1).val / 128 < n + 1 := hi
    subst ho
    rw [Rect.mem_set_unit]
    intro c
    match c with
    | 0 => show 128 * a ≤ (i 0).val ∧ (i 0).val < 128 * a + 128; omega
    | 1 => show 128 * b ≤ (i 1).val ∧ (i 1).val < 128 * b + 128; omega

end Rows

end Cert.Quant

end
-- ==== Proof.Rows.lean ====
module

public import proofs.«01_k».proof.Proof.Pieces
public import proofs.«01_k».proof.Proof.Gen.KernelIdeal.Skeleton
public import Idealize.ShloMosaic.Lib.Pipeline.Value
public import Idealize.ShloMosaic.Lib.ValueIdxCore

@[expose] public section

/-!
# The quantised row block as a function of the block of `x`

One trip of the kernel's loop quantises 64 rows, 128 columns at a time. `qCodes`, `qScale` and `qXa` are what one such
tile of `x` gives; `codesOf`, `scalesOf` and `xaOf` put the tiles together over the whole block of 512 rows.
-/

set_option maxRecDepth 16384

noncomputable section

namespace Cert.Quant

open Idealize.ShloMosaic
open Cert.KernelIdeal Cert.KernelIdeal.Gen

variable {F : FTy → Type} [FloatOps F]

/-- The codes of one tile. -/
def qCodes (v : Vec F S64x128 .bf16) : Vec F S64x128 .fp8e4m3 := k0_pay9 (k0_pay7 v) k0_pay8
/-- The scales of one tile, one to a row. -/
def qScale (v : Vec F S64x128 .bf16) : Vec F S64x1 .f32 := k0_pay6 v
/-- The codes of one tile times their scales. -/
def qXa (v : Vec F S64x128 .bf16) : Vec F S64x128 .bf16 := k0_pay10 (k0_pay6 v) (k0_pay7 v) k0_pay8

/-- The tile of 64 rows and 128 columns at row band `a`, column block `b`. -/
def tileAt (a : Fin 8) (b : Fin 54) : Rect S512x6912 :=
  Rect.unit ![64 * a.val, 128 * b.val] S64x128.size (Rect.inb₂ (by show 64 * a.val + 64 ≤ 512; omega) (by show 128 * b.val + 128 ≤ 6912; omega))

/-- The tile of the block `X` at band `a`, column block `b`. -/
def tile (X : Vec F S512x6912 .bf16) (a : Fin 8) (b : Fin 54) : Vec F S64x128 .bf16 := View.ld X (tileAt a b)

/-- The row band of row `r`. -/
def bandOf (r : Fin 512) : Fin 8 := ⟨r.val / 64, by omega⟩
/-- The column block of column `c`. -/
def blockOf (c : Fin 6912) : Fin 54 := ⟨c.val / 128, by omega⟩
/-- The place of `(r, c)` inside its tile. -/
def inTile (r : Fin 512) (c : Fin 6912) : S64x128.Idx
  | 0 => ⟨r.val % 64, Nat.mod_lt _ (by decide)⟩
  | 1 => ⟨c.val % 128, Nat.mod_lt _ (by decide)⟩
/-- The place of row `r` in a column of 64. -/
def inCol (r : Fin 512) : S64x1.Idx
  | 0 => ⟨r.val % 64, Nat.mod_lt _ (by decide)⟩
  | 1 => ⟨0, by decide⟩

/-- The codes of the whole block of `x`. -/
def codesOf (X : Vec F S512x6912 .bf16) : Vec F S512x6912 .fp8e4m3 := fun i =>
  qCodes (tile X (bandOf (i 0)) (blockOf (i 1))) (inTile (i 0) (i 1))
/-- The codes times their scales. -/
def xaOf (X : Vec F S512x6912 .bf16) : Vec F S512x6912 .bf16 := fun i =>
  qXa (tile X (bandOf (i 0)) (blockOf (i 1))) (inTile (i 0) (i 1))
/-- The scales. -/
def scalesOf (X : Vec F S512x6912 .bf16) : Vec F S512x54 .f32 := fun i =>
  qScale (tile X (bandOf (i 0)) (i 1)) (inCol (i 0))

/-- A place of a rectangle of 64 by 128 at band `k`, block `n`: its band, its block and its place inside. -/
theorem place {off : Fin 2 → ℕ} (h : ∀ a, off a + S64x128.size a ≤ S512x6912.size a) (k : Fin 8) (n : Fin 54)
    (ho : off = ![64 * k.val, 128 * n.val]) (x : S64x128.Idx) :
    bandOf ((Rect.unit (s := S512x6912) off S64x128.size h).emb x 0) = k
      ∧ blockOf ((Rect.unit (s := S512x6912) off S64x128.size h).emb x 1) = n
      ∧ inTile ((Rect.unit (s := S512x6912) off S64x128.size h).emb x 0) ((Rect.unit (s := S512x6912) off S64x128.size h).emb x 1) = x := by
  subst ho
  have h0 : (x 0).val < 64 := (x 0).isLt
  have h1 : (x 1).val < 128 := (x 1).isLt
  refine ⟨Fin.ext ?_, Fin.ext ?_, funext fun a => Fin.ext ?_⟩
  · show (64 * k.val + 1 * (x 0).val) / 64 = k.val; omega
  · show (128 * n.val + 1 * (x 1).val) / 128 = n.val; omega
  · match a with
    | 0 => show (64 * k.val + 1 * (x 0).val) % 64 = (x 0).val; omega
    | 1 => show (128 * n.val + 1 * (x 1).val) % 128 = (x 1).val; omega

/-- What a load through a rectangle at band `k`, block `n` reads is that tile. -/
theorem ld_tile (X : Vec F S512x6912 .bf16) {off : Fin 2 → ℕ} (h : ∀ a, off a + S64x128.size a ≤ S512x6912.size a)
    (k : Fin 8) (n : Fin 54) (ho : off = ![64 * k.val, 128 * n.val]) :
    (View.ld X (Rect.unit (s := S512x6912) off S64x128.size h) : Vec F S64x128 .bf16) = tile X k n := by
  subst ho; rfl

/-- The codes stored at a band and block are those of the whole block there. -/
theorem codes_at (X : Vec F S512x6912 .bf16) {off : Fin 2 → ℕ} (h : ∀ a, off a + S64x128.size a ≤ S512x6912.size a)
    (k : Fin 8) (n : Fin 54) (ho : off = ![64 * k.val, 128 * n.val]) (x : S64x128.Idx) :
    qCodes (F := F) (View.ld X (Rect.unit (s := S512x6912) off S64x128.size h)) x
      = codesOf X ((Rect.unit (s := S512x6912) off S64x128.size h).emb x) := by
  obtain ⟨e0, e1, e2⟩ := place h k n ho x
  rw [ld_tile X h k n ho]
  show _ = qCodes (tile X (bandOf _) (blockOf _)) (inTile _ _)
  rw [e0, e1, e2]

/-- The same of the codes times their scales. -/
theorem xa_at (X : Vec F S512x6912 .bf16) {off : Fin 2 → ℕ} (h : ∀ a, off a + S64x128.size a ≤ S512x6912.size a)
    (k : Fin 8) (n : Fin 54) (ho : off = ![64 * k.val, 128 * n.val]) (x : S64x128.Idx) :
    qXa (F := F) (View.ld X (Rect.unit (s := S512x6912) off S64x128.size h)) x
      = xaOf X ((Rect.unit (s := S512x6912) off S64x128.size h).emb x) := by
  obtain ⟨e0, e1, e2⟩ := place h k n ho x
  rw [ld_tile X h k n ho]
  show _ = qXa (tile X (bandOf _) (blockOf _)) (inTile _ _)
  rw [e0, e1, e2]

/-- The first `n` columns of `acc` are the scales of the first `n` tiles of band `k`. -/
def ScaleCols (X : Vec F S512x6912 .bf16) (k : Fin 8) (n : ℕ) (acc : FVec F S64x54 .f32) : Prop :=
  ∀ j : S64x54.Idx, (j 1).val < n → acc j = qScale (tile X k (j 1)) (fun | 0 => j 0 | 1 => ⟨0, by decide⟩)

/-- One more column put in place: lane `n` of each row takes the tile's scale, the others stay. -/
theorem ScaleCols.step {X : Vec F S512x6912 .bf16} {k : Fin 8} {n : ℕ} {acc : FVec F S64x54 .f32} (hn : n < 54)
    (h : ScaleCols X k n acc) {off : Fin 2 → ℕ} (hb : ∀ a, off a + S64x128.size a ≤ S512x6912.size a)
    (ho : off = ![64 * k.val, 128 * n]) :
    ScaleCols X k (n + 1)
      (select (cmpi .eq (iota .tc S64x54 32 [1] iota_S64x54_d1_w32) (broadcast S64x54 (BitVec.ofNat 32 n)))
        (broadcastTo S64x54 (shapeCast S64x1 (qScale (F := F) (View.ld X (Rect.unit (s := S512x6912) off S64x128.size hb))) shapeCasts_S64x1_S64x1)
          broadcasts_S64x1_S64x54) acc) := by
  intro j hj
  have hj1 : (j 1).val < 54 := (j 1).isLt
  rw [ld_tile X hb k ⟨n, hn⟩ ho, shapeCast_self]
  show Scalar.select _ _ _ = _
  rw [broadcastTo_apply _ _ j (fun | 0 => j 0 | 1 => ⟨0, by decide⟩ : S64x1.Idx) (fun a => by match a with | 0 => rfl | 1 => rfl)]
  have hc : cmpi .eq (iota .tc S64x54 32 [1] iota_S64x54_d1_w32) (broadcast S64x54 (BitVec.ofNat 32 n)) j
      = if (j 1).val = n then 1#1 else 0#1 := by
    show IntOp.cmpi .eq (iota .tc S64x54 32 [1] iota_S64x54_d1_w32 j) (BitVec.ofNat 32 n) = _
    rw [iota_single_apply]
    unfold IntOp.cmpi
    have : (BitVec.ofNat 32 (j 1).val == BitVec.ofNat 32 n) = decide ((j 1).val = n) := by
      rw [beq_eq_decide]
      refine decide_eq_decide.mpr ⟨fun h => ?_, fun h => by rw [h]⟩
      have := congrArg BitVec.toNat h
      rw [BitVec.toNat_ofNat, BitVec.toNat_ofNat, Nat.mod_eq_of_lt (by omega), Nat.mod_eq_of_lt (by omega)] at this
      exact this
    simp only [this]
    by_cases hjn : (j 1).val = n <;> simp [hjn]
  rw [hc]
  by_cases hjn : (j 1).val = n
  · rw [if_pos hjn]
    have : j 1 = ⟨n, hn⟩ := Fin.ext hjn
    rw [this]; rfl
  · rw [if_neg hjn]
    exact h j (by omega)

/-- Nothing is asked of the first no columns. -/
theorem ScaleCols.zero (X : Vec F S512x6912 .bf16) (k : Fin 8) (acc : FVec F S64x54 .f32) : ScaleCols X k 0 acc :=
  fun _ h => absurd h (Nat.not_lt_zero _)

/-- The scales stored at band `k` are those of the whole block there. -/
theorem scales_at {X : Vec F S512x6912 .bf16} {k : Fin 8} {acc : FVec F S64x54 .f32} (h : ScaleCols X k 54 acc)
    {off : Fin 2 → ℕ} (hb : ∀ a, off a + S64x54.size a ≤ S512x54.size a) (ho : off = ![64 * k.val, 0]) (x : S64x54.Idx) :
    acc x = scalesOf X ((Rect.unit (s := S512x54) off S64x54.size hb).emb x) := by
  subst ho
  have h0 : (x 0).val < 64 := (x 0).isLt
  have h1 : (x 1).val < 54 := (x 1).isLt
  rw [h x h1]
  set i := (Rect.unit (s := S512x54) ![64 * k.val, 0] S64x54.size hb).emb x with hi
  have e0 : bandOf (i 0) = k := Fin.ext (by show (64 * k.val + 1 * (x 0).val) / 64 = k.val; omega)
  have e1 : i 1 = x 1 := Fin.ext (by show 0 + 1 * (x 1).val = (x 1).val; omega)
  have e2 : inCol (i 0) = (fun | 0 => x 0 | 1 => ⟨0, by decide⟩ : S64x1.Idx) := by
    funext a
    match a with
    | 0 => exact Fin.ext (by show (64 * k.val + 1 * (x 0).val) % 64 = (x 0).val; omega)
    | 1 => rfl
  show _ = qScale (tile X (bandOf (i 0)) (i 1)) (inCol (i 0))
  rw [e0, e1, e2]

end Cert.Quant

end
-- ==== Proof.Trip.lean ====
module

public import proofs.«01_k».proof.Proof.Gen.KernelIdeal.Loops
public import proofs.«01_k».proof.Proof.Rows
public import Idealize.ShloMosaic.Lib.Pipeline.FrameBody

@[expose] public section

/-!
# One trip of the quantising loop, and the loop

Trip `k` stores the codes, the scales and their products of rows `64 * k` to `64 * k + 63`; so after the eight trips the
three buffers hold `codesOf`, `scalesOf` and `xaOf` of the block of `x`.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Quant

variable {F : FTy → Type} [FloatOps F]

local notation "𝕄" => MT nD τ sig Unit (Elt F) ℕ (UR sig nD τ) ℕ

/-- A store of the next block of codes. -/
theorem codes_band {sp : Space} (v : View sig .tc sp S512x6912 .bf16) (f : BufTy.Contents (Elt F) v.ty) {k : Fin 8} {n : ℕ} {off : Fin 2 → ℕ}
    {L : List (View.Piece (Elt F) S512x6912 .fp8e4m3)} {hb : ∀ a, off a + S64x128.size a ≤ S512x6912.size a}
    {p : (Rect.unit (s := S512x6912) off S64x128.size hb).shape.Idx → Elt F .fp8e4m3}
    (hL : Tiles (Val := Elt F) (codesOf (v.read (Elt F) f)) (Band (64 * k.val) 64 n) L) (ho : off = ![64 * k.val, 128 * n]) (hn : n < 54)
    (hp : p = qCodes (v.readAt (Elt F) (Rect.unit (s := S512x6912) off S64x128.size hb).toLoadRect f)) :
    Tiles (Val := Elt F) (codesOf (v.read (Elt F) f)) (Band (64 * k.val) 64 (n + 1)) (⟨Rect.unit off S64x128.size hb, p⟩ :: L) := by
  subst hp
  exact Tiles.band hL ho fun x => codes_at (v.read (Elt F) f) hb k ⟨n, hn⟩ ho x

/-- A store of the next block of products. -/
theorem xa_band {sp : Space} (v : View sig .tc sp S512x6912 .bf16) (f : BufTy.Contents (Elt F) v.ty) {k : Fin 8} {n : ℕ} {off : Fin 2 → ℕ}
    {L : List (View.Piece (Elt F) S512x6912 .bf16)} {hb : ∀ a, off a + S64x128.size a ≤ S512x6912.size a}
    {p : (Rect.unit (s := S512x6912) off S64x128.size hb).shape.Idx → Elt F .bf16}
    (hL : Tiles (Val := Elt F) (xaOf (v.read (Elt F) f)) (Band (64 * k.val) 64 n) L) (ho : off = ![64 * k.val, 128 * n]) (hn : n < 54)
    (hp : p = qXa (v.readAt (Elt F) (Rect.unit (s := S512x6912) off S64x128.size hb).toLoadRect f)) :
    Tiles (Val := Elt F) (xaOf (v.read (Elt F) f)) (Band (64 * k.val) 64 (n + 1)) (⟨Rect.unit off S64x128.size hb, p⟩ :: L) := by
  subst hp
  exact Tiles.band hL ho fun x => xa_at (v.read (Elt F) f) hb k ⟨n, hn⟩ ho x

/-- The next column of scales. -/
theorem scale_col {sp : Space} (v : View sig .tc sp S512x6912 .bf16) (f : BufTy.Contents (Elt F) v.ty) {k : Fin 8} {n : ℕ} {off : Fin 2 → ℕ}
    {acc acc' : FVec F S64x54 .f32} (h : ScaleCols (v.read (Elt F) f) k n acc) (hb : ∀ a, off a + S64x128.size a ≤ S512x6912.size a)
    (ho : off = ![64 * k.val, 128 * n]) (hn : n < 54)
    (hp : acc' = select (cmpi .eq (iota .tc S64x54 32 [1] iota_S64x54_d1_w32) (broadcast S64x54 (BitVec.ofNat 32 n)))
        (broadcastTo S64x54 (shapeCast S64x1 (qScale (F := F) (v.readAt (Elt F) (Rect.unit (s := S512x6912) off S64x128.size hb).toLoadRect f))
          shapeCasts_S64x1_S64x1) broadcasts_S64x1_S64x54) acc) :
    ScaleCols (v.read (Elt F) f) k (n + 1) acc' := by
  subst hp; exact h.step hn hb ho

theorem no_band {w : ℕ} (r h : ℕ) (i : (⟨2, ![512, w]⟩ : Shape).Idx) : ¬ Band r h 0 i := fun hi => absurd hi.2 (by omega)

theorem band_rows {w : ℕ} (k n : ℕ) (hw : w ≤ 128 * n) (i : (⟨2, ![512, w]⟩ : Shape).Idx)
    (hi : 64 * k ≤ (i 0).val ∧ (i 0).val < 64 * (k + 1)) : Band (64 * k) 64 n i :=
  ⟨⟨hi.1, by omega⟩, lt_of_lt_of_le (i 1).isLt hw⟩

attribute [local irreducible] multiReduction multiReductionI iota shapeCast broadcastTo
set_option maxHeartbeats 4000000 in
/-- What one trip owns: the block of `x`, which it reads, and the three buffers that it writes. -/
abbrev TripOwned (c : Dev nD) (arg3 : Memref sig .tc .vmem S512x6912 .bf16) (arg6 : Memref sig .tc .vmem S512x6912 .fp8e4m3) (arg7 : Memref sig .tc .vmem S512x54 .f32) (arg8 : Memref sig .tc .vmem S512x6912 .bf16) (X_arg3 : BufTy.Contents (Elt F) arg3.view.ty) (f_arg6 : BufTy.Contents (Elt F) arg6.view.ty) (f_arg7 : BufTy.Contents (Elt F) arg7.view.ty) (f_arg8 : BufTy.Contents (Elt F) arg8.view.ty) : sProp 𝕄 :=
  iprop((arg3.view.loc (c : Thread nD τ) ↦[arg3.view.set]{fullShare} X_arg3) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8))

/-- ONE TRIP: the rows below `64 * k` done before, those below `64 * (k + 1)` done after. -/
theorem trip (𝒱 : Variants) (c : Dev nD) (bd : Option 𝒱.V) (i : grid0.Coords) (arg2 : Memref sig .tc .smem S54x32 .f32) (harg2 : arg2.IsWhole) (arg3 : Memref sig .tc .vmem S512x6912 .bf16) (harg3 : arg3.IsWhole) (arg4 : Memref sig .tc .vmem S6912x512 .fp8e4m3) (harg4 : arg4.IsWhole) (arg5 : Memref sig .tc .vmem S512x512 .bf16) (harg5 : arg5.IsWhole) (arg6 : Memref sig .tc .vmem S512x6912 .fp8e4m3) (harg6 : arg6.IsWhole) (arg7 : Memref sig .tc .vmem S512x54 .f32) (harg7 : arg7.IsWhole) (arg8 : Memref sig .tc .vmem S512x6912 .bf16) (harg8 : arg8.IsWhole) (arg9 : Memref sig .tc .vmem S6912x512 .bf16) (harg9 : arg9.IsWhole) (k0_h1 : k0_cond1 i = 1#1)
    (k : Fin k0_t1_loop.trips) (E : Set ℕ) (f3 : BufTy.Contents (Elt F) arg3.view.ty)
    (f6 : BufTy.Contents (Elt F) arg6.view.ty) (f7 : BufTy.Contents (Elt F) arg7.view.ty) (f8 : BufTy.Contents (Elt F) arg8.view.ty)
    (h6 : Upto (Val := Elt F) (codesOf (arg3.view.read (Elt F) f3)) (64 * k.val) (arg6.view.read (Elt F) f6))
    (h7 : Upto (Val := Elt F) (scalesOf (arg3.view.read (Elt F) f3)) (64 * k.val) (arg7.view.read (Elt F) f7))
    (h8 : Upto (Val := Elt F) (xaOf (arg3.view.read (Elt F) f3)) (64 * k.val) (arg8.view.read (Elt F) f8)) :
    TripOwned (F := F) c arg3 arg6 arg7 arg8 f3 f6 f7 f8
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 k0_h1 k PUnit.unit)
          (fun _ => iprop((arg3.view.loc (c : Thread nD τ) ↦[arg3.view.set]{fullShare} f3)
            ∗ (∃ g6, (arg6.view.loc (c : Thread nD τ) ↦[arg6.view.set]{fullShare} g6) ∗ ⌜Upto (Val := Elt F) (codesOf (arg3.view.read (Elt F) f3)) (64 * (k.val + 1)) (arg6.view.read (Elt F) g6)⌝)
            ∗ (∃ g7, (arg7.view.loc (c : Thread nD τ) ↦[arg7.view.set]{fullShare} g7) ∗ ⌜Upto (Val := Elt F) (scalesOf (arg3.view.read (Elt F) f3)) (64 * (k.val + 1)) (arg7.view.read (Elt F) g7)⌝)
            ∗ (∃ g8, (arg8.view.loc (c : Thread nD τ) ↦[arg8.view.set]{fullShare} g8) ∗ ⌜Upto (Val := Elt F) (xaOf (arg3.view.read (Elt F) f3)) (64 * (k.val + 1)) (arg8.view.read (Elt F) g8)⌝))) := by
  have hk : k.val < 8 := Nat.lt_of_lt_of_le k.isLt k0_t1_abs.2.1
  unfold k0_t1_body
  iintro ⟨HR, H6, H7, H8⟩
  sl_exec
  sl_step
  isplitl [HR]
  · iexact HR
  isplitl [H6]
  · iexists _
    isplitl [H6]
    · iexact H6
    ipureintro
    refine h6.step (Tiles.mono ?_ (band_rows k.val 54 (by decide)))
    iterate 54
      refine codes_band (k := ⟨k.val, hk⟩) arg3.view f3 ?_ ?_ (by decide) ?_
      rotate_left
      · exact ClosedOff.eq
      · rfl
    exact Tiles.nil _ _ (no_band _ _)
  isplitl [H7]
  · iexists _
    isplitl [H7]
    · iexact H7
    ipureintro
    refine h7.step (Tiles.cons (Tiles.nil _ (fun _ => False) fun _ h => h) (fun x => scales_at (k := ⟨k.val, hk⟩) ?_ _ ?_ x) fun j hj => .inr ?_)
    · iterate 54
        refine scale_col (k := ⟨k.val, hk⟩) arg3.view f3 ?_ _ ClosedOff.eq (by decide) rfl
      exact ScaleCols.zero _ _ _
    · exact ClosedOff.eq
    · rw [Rect.mem_set_unit, k0_off55_eq]
      intro a
      match a with
      | 0 => exact ⟨hj.1, by have := hj.2; show (j 0).val < 64 * k.val + 64; omega⟩
      | 1 => exact ⟨Nat.zero_le _, by have := (j 1).isLt; show (j 1).val < 0 + 54; exact lt_of_lt_of_eq this (by decide)⟩
  · iexists _
    isplitl [H8]
    · iexact H8
    ipureintro
    refine h8.step (Tiles.mono ?_ (band_rows k.val 54 (by decide)))
    iterate 54
      refine xa_band (k := ⟨k.val, hk⟩) arg3.view f3 ?_ ?_ (by decide) ?_
      rotate_left
      · exact ClosedOff.eq
      · rfl
    exact Tiles.nil _ _ (no_band _ _)

set_option warn.classDefReducibility false in
/-- THE LOOP: before trip `k` the rows below `64 * k` of the three buffers are done. -/
def quantLoop (𝒱 : Variants) (c : Dev nD) (bd : Option 𝒱.V) (E : Set ℕ) (i : grid0.Coords) (arg2 : Memref sig .tc .smem S54x32 .f32) (harg2 : arg2.IsWhole) (arg3 : Memref sig .tc .vmem S512x6912 .bf16) (harg3 : arg3.IsWhole) (arg4 : Memref sig .tc .vmem S6912x512 .fp8e4m3) (harg4 : arg4.IsWhole) (arg5 : Memref sig .tc .vmem S512x512 .bf16) (harg5 : arg5.IsWhole) (arg6 : Memref sig .tc .vmem S512x6912 .fp8e4m3) (harg6 : arg6.IsWhole) (arg7 : Memref sig .tc .vmem S512x54 .f32) (harg7 : arg7.IsWhole) (arg8 : Memref sig .tc .vmem S512x6912 .bf16) (harg8 : arg8.IsWhole) (arg9 : Memref sig .tc .vmem S6912x512 .bf16) (harg9 : arg9.IsWhole) (k0_h1 : k0_cond1 i = 1#1)
    (f3 : BufTy.Contents (Elt F) arg3.view.ty) :
    LoopInvTy_k0_t1 (F := F) Unit ℕ (UR sig nD τ) ℕ 𝒱 c bd E i arg2 harg2 arg3 harg3 arg4 harg4 arg5 harg5 arg6 harg6 arg7 harg7 arg8 harg8 arg9 harg9 k0_h1 where
  inv := fun k _ => iprop((arg3.view.loc (c : Thread nD τ) ↦[arg3.view.set]{fullShare} f3)
    ∗ (∃ g6, (arg6.view.loc (c : Thread nD τ) ↦[arg6.view.set]{fullShare} g6) ∗ ⌜Upto (Val := Elt F) (codesOf (arg3.view.read (Elt F) f3)) (64 * k) (arg6.view.read (Elt F) g6)⌝)
    ∗ (∃ g7, (arg7.view.loc (c : Thread nD τ) ↦[arg7.view.set]{fullShare} g7) ∗ ⌜Upto (Val := Elt F) (scalesOf (arg3.view.read (Elt F) f3)) (64 * k) (arg7.view.read (Elt F) g7)⌝)
    ∗ (∃ g8, (arg8.view.loc (c : Thread nD τ) ↦[arg8.view.set]{fullShare} g8) ∗ ⌜Upto (Val := Elt F) (xaOf (arg3.view.read (Elt F) f3)) (64 * k) (arg8.view.read (Elt F) g8)⌝))
  step k acc := by
    iintro ⟨H3, ⟨%g6, H6, %h6⟩, ⟨%g7, H7, %h7⟩, ⟨%g8, H8, %h8⟩⟩
    iapply (trip 𝒱 c bd i arg2 harg2 arg3 harg3 arg4 harg4 arg5 harg5 arg6 harg6 arg7 harg7 arg8 harg8 arg9 harg9 k0_h1 k E f3 g6 g7 g8 h6 h7 h8)
    isplitl [H3]; · iexact H3
    isplitl [H6]; · iexact H6
    isplitl [H7]; · iexact H7
    iexact H8

end Cert.KernelIdeal.Body

end
-- ==== Proof.Weights.lean ====
module

public import proofs.«01_k».proof.Proof.Rows
public import Idealize.ShloMosaic.Lib.Pipeline.FrameBody

@[expose] public section

/-!
# The scaled weight block as a function of the block of `w` and the scales

The kernel scales its block of 6912 rows and 512 columns of weights 128 by 128, one scale to a tile. `waOf` is the whole
scaled block; `Tiles.canon` reads a value off a list of stores that covers it.
-/

set_option maxRecDepth 16384

noncomputable section

namespace Cert.Quant

open Idealize.ShloMosaic
open Cert.KernelIdeal Cert.KernelIdeal.Gen

/-- What the last store over a place left there, where every store writes `G`. -/
theorem Tiles.canon {Val : EltTy → Type} [∀ e, Nonempty (Val e)] {s : Shape} {e : EltTy} {G : s.Idx → Val e} {D : s.Idx → Prop} :
    ∀ {L : List (View.Piece Val s e)}, Tiles G D L → ∀ i, D i → View.canon L i = G i
  | L, hL, i, hi => by
    obtain ⟨hP, hD⟩ := hL
    have hm := hD i hi
    clear hD
    induction L with
    | nil => obtain ⟨_, hm, _⟩ := hm; exact absurd hm List.not_mem_nil
    | cons q L ih =>
      obtain ⟨r, w⟩ := q
      by_cases hy : i ∈ r.set
      · obtain ⟨x, rfl⟩ : ∃ x, r.emb x = i := r.exists_idx_of_mem hy
        rw [View.canon_cons_emb]
        exact hP ⟨r, w⟩ List.mem_cons_self x
      · rw [View.canon_cons_of_not_mem ⟨r, w⟩ L hy]
        refine ih (fun p hp => hP p (List.mem_cons_of_mem _ hp)) ?_
        obtain ⟨p, hp, hpi⟩ := hm
        rcases List.mem_cons.mp hp with rfl | hp
        · exact absurd hpi hy
        · exact ⟨p, hp, hpi⟩

variable {F : FTy → Type} [FloatOps F]

/-- One tile of weights times its scale. -/
def qW (s : Elt F .f32) (w : Vec F S128x128 .fp8e4m3) : Vec F S128x128 .bf16 := k0_pay403 s w

/-- The tile of 128 by 128 at `a` down and `b` across. -/
def wTileAt (a : Fin 54) (b : Fin 4) : Rect S6912x512 :=
  Rect.unit ![128 * a.val, 128 * b.val] S128x128.size (Rect.inb₂ (by show 128 * a.val + 128 ≤ 6912; omega) (by show 128 * b.val + 128 ≤ 512; omega))

/-- Which tile row `r` of the weights is in. -/
def wBand (r : Fin 6912) : Fin 54 := ⟨r.val / 128, by omega⟩
/-- Which tile column `c` of the block is in. -/
def wBlock (c : Fin 512) : Fin 4 := ⟨c.val / 128, by omega⟩
/-- The place of `(r, c)` inside its tile. -/
def inW (r : Fin 6912) (c : Fin 512) : S128x128.Idx
  | 0 => ⟨r.val % 128, Nat.mod_lt _ (by decide)⟩
  | 1 => ⟨c.val % 128, Nat.mod_lt _ (by decide)⟩
/-- The scale's place for tile `a`, `b` of column block `n`. -/
def wsAt (n : Fin 8) (a : Fin 54) (b : Fin 4) : S54x32.Idx
  | 0 => a
  | 1 => ⟨4 * n.val + b.val, by show 4 * n.val + b.val < 32; omega⟩

/-- The scaled weights of column block `n`. -/
def waOf (S : Vec F S54x32 .f32) (W : Vec F S6912x512 .fp8e4m3) (n : Fin 8) : Vec F S6912x512 .bf16 := fun i =>
  qW (S (wsAt n (wBand (i 0)) (wBlock (i 1)))) (View.ld W (wTileAt (wBand (i 0)) (wBlock (i 1)))) (inW (i 0) (i 1))

/-- The tile stored at `a`, `b` is the scaled block's there. -/
theorem wa_at (S : Vec F S54x32 .f32) (W : Vec F S6912x512 .fp8e4m3) (n : Fin 8) {off offs : Fin 2 → ℕ}
    (h : ∀ a, off a + S128x128.size a ≤ S6912x512.size a) (hs : ∀ a, offs a + S1x1.size a ≤ S54x32.size a)
    (y : (Rect.unit (s := S54x32) offs S1x1.size hs).shape.Idx) (a : Fin 54) (b : Fin 4) (ho : off = ![128 * a.val, 128 * b.val])
    (hos : offs = ![a.val, 4 * n.val + b.val]) (x : S128x128.Idx) :
    qW (F := F) (View.ld S (Rect.unit (s := S54x32) offs S1x1.size hs) y) (View.ld W (Rect.unit (s := S6912x512) off S128x128.size h)) x
      = waOf S W n ((Rect.unit (s := S6912x512) off S128x128.size h).emb x) := by
  subst ho hos
  have h0 : (x 0).val < 128 := (x 0).isLt
  have h1 : (x 1).val < 128 := (x 1).isLt
  have y0 : (y 0).val < 1 := (y 0).isLt
  have y1 : (y 1).val < 1 := (y 1).isLt
  set i := (Rect.unit (s := S6912x512) ![128 * a.val, 128 * b.val] S128x128.size h).emb x with hi
  have e0 : wBand (i 0) = a := Fin.ext (by show (128 * a.val + 1 * (x 0).val) / 128 = a.val; omega)
  have e1 : wBlock (i 1) = b := Fin.ext (by show (128 * b.val + 1 * (x 1).val) / 128 = b.val; omega)
  have e2 : inW (i 0) (i 1) = x := by
    funext d
    match d with
    | 0 => exact Fin.ext (by show (128 * a.val + 1 * (x 0).val) % 128 = (x 0).val; omega)
    | 1 => exact Fin.ext (by show (128 * b.val + 1 * (x 1).val) % 128 = (x 1).val; omega)
  have e3 : (View.ld S (Rect.unit (s := S54x32) ![a.val, 4 * n.val + b.val] S1x1.size hs) y : Elt F .f32) = S (wsAt n a b) := by
    show S _ = S _
    refine congrArg S (funext fun d => ?_)
    match d with
    | 0 => exact Fin.ext (by show a.val + 1 * (y 0).val = a.val; omega)
    | 1 => exact Fin.ext (by show 4 * n.val + b.val + 1 * (y 1).val = 4 * n.val + b.val; omega)
  show _ = qW (S (wsAt n (wBand (i 0)) (wBlock (i 1)))) (View.ld W (wTileAt (wBand (i 0)) (wBlock (i 1)))) (inW (i 0) (i 1))
  rw [e0, e1, e2, e3]
  rfl

/-- A store of the next tile, in a list that covers the first `m` tiles row by row. -/
theorem wa_tile {sp sp' : Space} (v : View sig .tc sp S54x32 .f32) (f : BufTy.Contents (Elt F) v.ty)
    (v' : View sig .tc sp' S6912x512 .fp8e4m3) (f' : BufTy.Contents (Elt F) v'.ty) (n : Fin 8) {m : ℕ} {off offs : Fin 2 → ℕ}
    {L : List (View.Piece (Elt F) S6912x512 .bf16)} {h : ∀ a, off a + S128x128.size a ≤ S6912x512.size a}
    (hs : ∀ a, offs a + S1x1.size a ≤ S54x32.size a)
    (y : (Rect.unit (s := S54x32) offs S1x1.size hs).shape.Idx)
    {p : (Rect.unit (s := S6912x512) off S128x128.size h).shape.Idx → Elt F .bf16}
    (hL : Tiles (Val := Elt F) (waOf (v.read (Elt F) f) (v'.read (Elt F) f') n) (Tile4 m) L)
    (hm : m < 216) (ho : off = ![128 * (m / 4), 128 * (m % 4)]) (hos : offs = ![m / 4, 4 * n.val + m % 4])
    (hp : p = qW (v.readAt (Elt F) (Rect.unit (s := S54x32) offs S1x1.size hs).toLoadRect f y)
      (v'.readAt (Elt F) (Rect.unit (s := S6912x512) off S128x128.size h).toLoadRect f')) :
    Tiles (Val := Elt F) (waOf (v.read (Elt F) f) (v'.read (Elt F) f') n) (Tile4 (m + 1)) (⟨Rect.unit off S128x128.size h, p⟩ :: L) := by
  subst hp
  exact Tiles.tile4 (a := m / 4) (b := m % 4) (by decide) hL ho (by omega) fun x =>
    wa_at (v.read (Elt F) f) (v'.read (Elt F) f') n h hs y ⟨m / 4, by omega⟩ ⟨m % 4, by omega⟩ ho hos x

end Cert.Quant

end
-- ==== Proof.Body.lean ====
module

public import proofs.«01_k».proof.Proof.Trip
public import proofs.«01_k».proof.Proof.Weights
public import proofs.«01_k».proof.Proof.Gen.KernelIdeal.Frame
public import Idealize.ShloMosaic.Lib.Claim
public import Idealize.ShloMosaic.Lib.WordCmp

@[expose] public section

/-!
# The kernel's body at one grid point

At a point that starts a row block the loop fills the row block's codes, scales and products; at every point the weights of
the column block are scaled and the product of the two is stored. `waOf` is the scaled weight block.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Quant

variable {F : FTy → Type} [FloatOps F]

local notation "𝕄" => MT nD τ sig Unit (Elt F) ℕ (UR sig nD τ) ℕ

/-- A load of a whole array reads all of it. -/
theorem readAt_whole {sp : Space} {m n : ℕ} {e : EltTy} (v : View sig .tc sp (⟨2, ![m, n]⟩ : Shape) e) (f : BufTy.Contents (Elt F) v.ty)
    (h : ∀ a, (![0, 0] : Fin 2 → ℕ) a + (![m, n] : Fin 2 → ℕ) a ≤ (⟨2, ![m, n]⟩ : Shape).size a) :
    (v.readAt (Elt F) (Rect.unit (s := ⟨2, ![m, n]⟩) ![0, 0] ![m, n] h).toLoadRect f : Vec F ⟨2, ![m, n]⟩ e) = v.read (Elt F) f := by
  funext x
  show v.read (Elt F) f _ = v.read (Elt F) f x
  refine congrArg _ (funext fun d => Fin.ext ?_)
  match d with
  | 0 => show 0 + 1 * (x 0).val = (x 0).val; omega
  | 1 => show 0 + 1 * (x 1).val = (x 1).val; omega

/-- A store of a whole array leaves what was stored. -/
theorem read_writes_whole {sp : Space} {m n : ℕ} {e : EltTy} (v : View sig .tc sp (⟨2, ![m, n]⟩ : Shape) e) (f : BufTy.Contents (Elt F) v.ty)
    (h : ∀ a, (![0, 0] : Fin 2 → ℕ) a + (![m, n] : Fin 2 → ℕ) a ≤ (⟨2, ![m, n]⟩ : Shape).size a) (p : Vec F ⟨2, ![m, n]⟩ e) :
    v.read (Elt F) (v.writes (Elt F) f [⟨Rect.unit (s := ⟨2, ![m, n]⟩) ![0, 0] ![m, n] h, p⟩]) = p := by
  funext x
  have hx : (Rect.unit (s := ⟨2, ![m, n]⟩) ![0, 0] ![m, n] h).emb x = x := by
    refine funext fun d => Fin.ext ?_
    match d with
    | 0 => show 0 + 1 * (x 0).val = (x 0).val; omega
    | 1 => show 0 + 1 * (x 1).val = (x 1).val; omega
  refine Tiles.read v f p x _ ?_ (.inl ⟨_, List.mem_singleton_self _, ?_⟩)
  · intro q hq y
    obtain rfl := List.mem_singleton.mp hq
    refine congrArg p (funext fun d => Fin.ext ?_)
    match d with
    | 0 => show (y 0).val = 0 + 1 * (y 0).val; omega
    | 1 => show (y 1).val = 0 + 1 * (y 1).val; omega
  · have := (Rect.unit (s := ⟨2, ![m, n]⟩) ![0, 0] ![m, n] h).toLoadRect.idx_mem x
    exact hx ▸ this

/-- A load of the whole weight scratch after stores that cover it. -/
theorem readCov_tiles {sp : Space} (v : View sig .tc sp S6912x512 .bf16) {L : List (View.Piece (Elt F) S6912x512 .bf16)}
    {G : Vec F S6912x512 .bf16} (h : ∀ a, (![0, 0] : Fin 2 → ℕ) a + (![6912, 512] : Fin 2 → ℕ) a ≤ S6912x512.size a)
    (hL : Tiles (Val := Elt F) G (Tile4 216) L) :
    (v.readCov L (Rect.unit (s := S6912x512) ![0, 0] ![6912, 512] h).toLoadRect : Vec F S6912x512 .bf16) = G := by
  rw [View.readCov_eq_canon']
  funext x
  have h0 : (x 0).val < 6912 := (x 0).isLt
  have h1 : (x 1).val < 512 := (x 1).isLt
  have hx : (Rect.unit (s := S6912x512) ![0, 0] ![6912, 512] h).toLoadRect.idx x = (x : S6912x512.Idx) := by
    refine funext fun d => Fin.ext ?_
    match d with
    | 0 => show 0 + 1 * (x 0).val = (x 0).val; omega
    | 1 => show 0 + 1 * (x 1).val = (x 1).val; omega
  show View.canon L _ = _
  rw [hx]
  exact Tiles.canon hL x (by show 4 * ((x 0).val / 128) + (x 1).val / 128 < 216; omega)

set_option maxHeartbeats 8000000 in
/-- A point inside a row block: the products and the other scratch stay, the output block is the product. -/
theorem runB (c : Dev nD) (i : grid0.Coords) (arg2 : Memref sig .tc .smem S54x32 .f32) (harg2 : arg2.IsWhole) (arg3 : Memref sig .tc .vmem S512x6912 .bf16) (harg3 : arg3.IsWhole) (arg4 : Memref sig .tc .vmem S6912x512 .fp8e4m3) (harg4 : arg4.IsWhole) (arg5 : Memref sig .tc .vmem S512x512 .bf16) (harg5 : arg5.IsWhole) (arg6 : Memref sig .tc .vmem S512x6912 .fp8e4m3) (harg6 : arg6.IsWhole) (arg7 : Memref sig .tc .vmem S512x54 .f32) (harg7 : arg7.IsWhole) (arg8 : Memref sig .tc .vmem S512x6912 .bf16) (harg8 : arg8.IsWhole) (arg9 : Memref sig .tc .vmem S6912x512 .bf16) (harg9 : arg9.IsWhole) (hc0 : ¬ k0_cond1 i = 1#1)
    (x0 : Vec F S54x32 .f32) (x1 : Vec F S512x6912 .bf16) (x2 : Vec F S6912x512 .fp8e4m3) (d4 : Vec F S512x6912 .fp8e4m3) (d5 : Vec F S512x54 .f32) (xa : Vec F S512x6912 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare d4 ∗ owns (c : Thread nD τ) arg7 fullShare d5 ∗ owns (c : Thread nD τ) arg8 fullShare xa ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay2 xa (waOf x0 x2 (i 1))) ∗ owns (c : Thread nD τ) arg6 fullShare d4 ∗ owns (c : Thread nD τ) arg7 fullShare d5 ∗ owns (c : Thread nD τ) arg8 fullShare xa ∗ (∃ d, owns (c : Thread nD τ) arg9 fullShare d)) -∗ K ⟨⟩))
          ⊢ wp frame (wpE (defs₀ (F := F)) Variants.none c none) E (cc0_fp8_linear i arg2 harg2 arg3 harg3 arg4 harg4 arg5 harg5 arg6 harg6 arg7 harg7 arg8 harg8 arg9 harg9) K := by
    intro E K
    simp only [cc0_fp8_linear_eq_skeleton]; unfold cc0_fp8_linear_skel
    simp only [k0_part138_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%ds1, %fs1, -, HS1⟩, Hk⟩
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap; · iexact H3
      ipureintro
      subst hf0 hf2 hfs0
      have hw : Tiles (Val := Elt F) (waOf (arg2.view.read (Elt F) f0) (arg4.view.read (Elt F) f2) (i 1)) (Tile4 216) (runB.sl.HS1_216 c i arg2 arg4 f0 f2) := by
        delta runB.sl.HS1_216
        iterate 216
          refine wa_tile arg2.view f0 arg4.view f2 (i 1) _ _ ?_ (by decide) rfl ClosedOff.eq rfl
        exact Tiles.nil _ _ fun j hj => absurd hj (Nat.not_lt_zero _)

      refine (read_writes_whole _ _ _ _).trans ?_
      exact congrArg₂ k0_pay2 (readAt_whole _ _ _) (readCov_tiles _ _ hw)
    isplitl [H4]
    · iexists _; isplitr; · ipureintro; exact hf4
      iexact H4
    isplitl [H5]
    · iexists _; isplitr; · ipureintro; exact hf5
      iexact H5
    isplitl [HS0]
    · iexists _; isplitr; · ipureintro; exact hfs0
      iexact HS0
    iexists _, _; isplitr; swap; · iexact HS1
    ipureintro; rfl

set_option maxHeartbeats 8000000 in
/-- A point that starts a row block: the loop fills the row block's codes, scales and products, and the output block is the product. -/
theorem runA (c : Dev nD) (i : grid0.Coords) (arg2 : Memref sig .tc .smem S54x32 .f32) (harg2 : arg2.IsWhole) (arg3 : Memref sig .tc .vmem S512x6912 .bf16) (harg3 : arg3.IsWhole) (arg4 : Memref sig .tc .vmem S6912x512 .fp8e4m3) (harg4 : arg4.IsWhole) (arg5 : Memref sig .tc .vmem S512x512 .bf16) (harg5 : arg5.IsWhole) (arg6 : Memref sig .tc .vmem S512x6912 .fp8e4m3) (harg6 : arg6.IsWhole) (arg7 : Memref sig .tc .vmem S512x54 .f32) (harg7 : arg7.IsWhole) (arg8 : Memref sig .tc .vmem S512x6912 .bf16) (harg8 : arg8.IsWhole) (arg9 : Memref sig .tc .vmem S6912x512 .bf16) (harg9 : arg9.IsWhole) (hc0 : k0_cond1 i = 1#1)
    (x0 : Vec F S54x32 .f32) (x1 : Vec F S512x6912 .bf16) (x2 : Vec F S6912x512 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay2 (xaOf x1) (waOf x0 x2 (i 1))) ∗ owns (c : Thread nD τ) arg6 fullShare (codesOf x1) ∗ owns (c : Thread nD τ) arg7 fullShare (scalesOf x1) ∗ owns (c : Thread nD τ) arg8 fullShare (xaOf x1) ∗ (∃ d, owns (c : Thread nD τ) arg9 fullShare d)) -∗ K ⟨⟩))
          ⊢ wp frame (wpE (defs₀ (F := F)) Variants.none c none) E (cc0_fp8_linear i arg2 harg2 arg3 harg3 arg4 harg4 arg5 harg5 arg6 harg6 arg7 harg7 arg8 harg8 arg9 harg9) K := by
    intro E K
    simp only [cc0_fp8_linear_eq_skeleton]; unfold cc0_fp8_linear_skel
    simp only [k0_part138_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    have u6 : Upto (Val := Elt F) (codesOf (arg3.view.read (Elt F) f1)) (64 * 0) (arg6.view.read (Elt F) f4) := fun j hj => absurd hj (Nat.not_lt_zero _)
    have u7 : Upto (Val := Elt F) (scalesOf (arg3.view.read (Elt F) f1)) (64 * 0) (arg7.view.read (Elt F) f5) := fun j hj => absurd hj (Nat.not_lt_zero _)
    have u8 : Upto (Val := Elt F) (xaOf (arg3.view.read (Elt F) f1)) (64 * 0) (arg8.view.read (Elt F) fs0) := fun j hj => absurd hj (Nat.not_lt_zero _)
    let inv := quantLoop (F := F) Variants.none c none E i arg2 harg2 arg3 harg3 arg4 harg4 arg5 harg5 arg6 harg6 arg7 harg7 arg8 harg8 arg9 harg9 hc0 f1
    sl_exec (disch := first | sl_exact hc0)
    sl_step
    iapply Hk
    have ht : Scf.trips k0_t1_loop.lb k0_t1_loop.ub k0_t1_loop.st = 8 := by decide
    have e6 : arg6.view.read (Elt F) g6L0 = codesOf (arg3.view.read (Elt F) f1) := funext fun j => hL2 j (by rw [ht]; exact (j 0).isLt)
    have e7 : arg7.view.read (Elt F) g7L1 = scalesOf (arg3.view.read (Elt F) f1) := funext fun j => hL4 j (by rw [ht]; exact (j 0).isLt)
    have e8 : arg8.view.read (Elt F) g8L2 = xaOf (arg3.view.read (Elt F) f1) := funext fun j => hL6 j (by rw [ht]; exact (j 0).isLt)
    subst hf0 hf1 hf2
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; swap; · iexact H3
      ipureintro
      have hw : Tiles (Val := Elt F) (waOf (arg2.view.read (Elt F) f0) (arg4.view.read (Elt F) f2) (i 1)) (Tile4 216) (runA.sl.HS1_216 c i arg2 arg4 f0 f2) := by
        delta runA.sl.HS1_216
        iterate 216
          refine wa_tile arg2.view f0 arg4.view f2 (i 1) _ _ ?_ (by decide) rfl ClosedOff.eq rfl
        exact Tiles.nil _ _ fun j hj => absurd hj (Nat.not_lt_zero _)

      refine (read_writes_whole _ _ _ _).trans ?_
      exact congrArg₂ k0_pay2 ((readAt_whole _ _ _).trans e8) (readCov_tiles _ _ hw)
    isplitl [H4]
    · iexists _; isplitr; · ipureintro; exact e6
      iexact H4
    isplitl [H5]
    · iexists _; isplitr; · ipureintro; exact e7
      iexact H5
    isplitl [HS0]
    · iexists _; isplitr; · ipureintro; exact e8
      iexact HS0
    iexists _, _; isplitr; swap; · iexact HS1
    ipureintro; rfl

end Cert.KernelIdeal.Body

end
-- ==== Proof.Run.lean ====
module

public import proofs.«01_k».proof.Proof.Body
public import Idealize.ShloMosaic.Lib.Pipeline.ValueKit.Geometry

@[expose] public section

/-!
# The pipelined run of the kernel, its results named block by block

After the body at point `t` the output block is the product of the row block's products and the column block's scaled
weights, and the codes and scales of the row block are in their staging buffers. The products stay in the scratch from one
point of a row block to the next, which the invariant says.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Quant

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S54x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x6912 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6912x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x6912 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x54 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x6912 .bf16 := Memref.whole cc0_scratch0
abbrev scM0_1 : Memref sig .tc .vmem S6912x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Window 3 is never idle. -/
theorem liveAt0_3 : ∀ t : Fin cfg0.N, cfg0.idle 3 (grid0.coords t) = false := fun _ => rfl
/-- Windows 4 and 5 are idle past the first point of a row block, -/
theorem idleAt (t : Fin cfg0.N) (h : ¬ t.val % 8 = 0) : (!(k0_cond1 (grid0.coords t) == 1#1)) = true := by
  rw [Bool.not_eq_true', beq_eq_false_iff_ne]
  exact fun e => h ((hcond0_0 t).mp e)
/-- and not there. -/
theorem liveAt (t : Fin cfg0.N) (h : t.val % 8 = 0) : (!(k0_cond1 (grid0.coords t) == 1#1)) = false := by
  rw [Bool.not_eq_false', beq_iff_eq]
  exact (hcond0_0 t).mpr h
theorem liveAt0_4 (t : Fin cfg0.N) (h : t.val % 8 = 0) : cfg0.idle 4 (grid0.coords t) = false := liveAt t h
theorem liveAt0_5 (t : Fin cfg0.N) (h : t.val % 8 = 0) : cfg0.idle 5 (grid0.coords t) = false := liveAt t h
theorem idleAt0_4 (t : Fin cfg0.N) (h : ¬ t.val % 8 = 0) : cfg0.idle 4 (grid0.coords t) = true := idleAt t h
theorem idleAt0_5 (t : Fin cfg0.N) (h : ¬ t.val % 8 = 0) : cfg0.idle 5 (grid0.coords t) = true := idleAt t h

/-! ## The blocks -/

/-- The block of `x` at point `t`: rows `512 * (t / 8)` on, all columns. -/
theorem idx1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)

/-- The column coordinate of point `t`. -/
theorem coord1 (t : Fin cfg0.N) : (grid0.coords t 1).val = t.val % 8 := by
  have e1 : (grid0.coords t 1).val = t.val / 1 % 8 := Pipeline.Grid.coords_val t 1 (by decide) rfl
  rw [e1, Nat.div_one]

/-- The block of `x` point `t` works on. -/
abbrev xBlk (c : Dev nD) (t : Fin cfg0.N) : Vec F S512x6912 .bf16 := iblk m c 1 t
/-- The scales of the weights. -/
abbrev sBlk (c : Dev nD) (t : Fin cfg0.N) : Vec F S54x32 .f32 := iblk m c 0 t
/-- The block of weights point `t` works on. -/
abbrev wBlk (c : Dev nD) (t : Fin cfg0.N) : Vec F S6912x512 .fp8e4m3 := iblk m c 2 t

/-- Two points of one row block have the same block of `x`. -/
theorem xBlk_congr (c : Dev nD) (t t' : Fin cfg0.N) (h : t.val / 8 = t'.val / 8) : xBlk m c t = xBlk m c t' := by
  obtain ⟨e0, e1⟩ := idx1 t
  obtain ⟨e0', e1'⟩ := idx1 t'
  funext j
  show V m c main_v0 (((cfg0.win 1).blk t).view.emb j) = V m c main_v0 (((cfg0.win 1).blk t').view.emb j)
  refine congrArg (V m c main_v0) (funext fun a => Fin.ext ?_)
  match a with
  | ⟨0, _⟩ => show win0_1.index t (0 : Fin 2) * 512 + 1 * (j 0).val = win0_1.index t' (0 : Fin 2) * 512 + 1 * (j 0).val; omega
  | ⟨1, _⟩ => show win0_1.index t (1 : Fin 2) * 6912 + 1 * (j 1).val = win0_1.index t' (1 : Fin 2) * 6912 + 1 * (j 1).val; omega

/-- The output block of point `t`. -/
abbrev yBlk (c : Dev nD) (t : Fin cfg0.N) : Vec F S512x512 .bf16 :=
  k0_pay2 (xaOf (xBlk m c t)) (waOf (sBlk m c t) (wBlk m c t) (grid0.coords t 1))

/-! ## The pipeline's proof data -/

/-- What is known before point `t`: past the first point the first scratch holds the products of the row block of the
    point before; the rest of the scratch and the generator register hold anything. -/
def Inv (c : Dev nD) (t : Fin (cfg0.N + 1)) : sProp 𝕄 :=
  iprop(iprop((∃ d, ⌜∀ h : t.val - 1 < cfg0.N, t.val ≠ 0 → d = xaOf (xBlk m c ⟨t.val - 1, h⟩)⌝ ∗ owns (c : Thread nD τ) scM0_0 fullShare d)
    ∗ (∃ d, owns (c : Thread nD τ) scM0_1 fullShare d)) ∗ (∃ r, prngReg c r))

/-- The proof data of the pipeline on core `c`: the arrays as the region finds them; after the body at point `t` each
    input's buffer at its block and each output's at its block of the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlk m c t
    | ⟨4, _⟩ => codesOf (xBlk m c t)
    | ⟨5, _⟩ => scalesOf (xBlk m c t)
  Φ t := Inv m c t
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yBlk m c t := by dsimp only [dats]
theorem after0_4 (c : Dev nD) (t : Fin cfg0.N) : (dats m 0 c).after 4 t = codesOf (xBlk m c t) := by dsimp only [dats]
theorem after0_5 (c : Dev nD) (t : Fin cfg0.N) : (dats m 0 c).after 5 t = scalesOf (xBlk m c t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Past the first point of a row block the codes' buffer still holds them. -/
theorem before0_4 (c : Dev nD) (d) : ∀ (n : ℕ) (t : Fin cfg0.N), t.val = n → ¬ t.val % 8 = 0 →
    (dats m 0 c).before 4 t d = codesOf (xBlk m c t)
  | 0, t, hn, h0 => absurd (by rw [hn]) h0
  | n + 1, t, hn, h0 => by
    have hlt : t.val - 1 < cfg0.N := Nat.lt_of_le_of_lt (Nat.sub_le _ _) t.isLt
    have hf : (cfg0.win 4).flush ⟨t.val - 1, hlt⟩ = false :=
      Bool.eq_false_iff.mpr fun h => by
        have h' : (t.val - 1) % 8 = 7 := (flush0_4 ⟨t.val - 1, hlt⟩).mp h
        omega
    rw [(dats m 0 c).before_of_pos 4 t (by omega) ((cfg0.win 4).fetch_out rfl t), hf, if_neg Bool.false_ne_true,
      ← xBlk_congr m c ⟨t.val - 1, hlt⟩ t (by show (t.val - 1) / 8 = t.val / 8; omega)]
    unfold Dat.left
    by_cases h1 : (t.val - 1) % 8 = 0
    · rw [liveAt0_4 ⟨t.val - 1, hlt⟩ h1]
      exact after0_4 m c ⟨t.val - 1, hlt⟩
    · rw [idleAt0_4 ⟨t.val - 1, hlt⟩ h1]
      exact before0_4 c d n ⟨t.val - 1, hlt⟩ (by show t.val - 1 = n; omega) h1

/-- What the body hands back there. -/
theorem leaves0_4 (c : Dev nD) (t : Fin cfg0.N) (h0 : ¬ t.val % 8 = 0) :
    (owns (c : Thread nD τ) (ms0_4 t) fullShare (codesOf (xBlk m c t)) : sProp 𝕄) ⊢ (dats m 0 c).leavesExact 4 t := by
  unfold Dat.leavesExact
  rw [idleAt0_4 t h0]
  cases hf : (cfg0.win 4).flush t
  · iintro H
    iexists (fun _ => Classical.arbitrary _)
    rw [before0_4 m c _ t.val t rfl h0]
    iexact H
  · show _ ⊢ owns (c : Thread nD τ) (ms0_4 t) fullShare ((dats m 0 c).after 4 t)
    rw [after0_4]

/-- Past the first point of a row block the scales' buffer still holds them. -/
theorem before0_5 (c : Dev nD) (d) : ∀ (n : ℕ) (t : Fin cfg0.N), t.val = n → ¬ t.val % 8 = 0 →
    (dats m 0 c).before 5 t d = scalesOf (xBlk m c t)
  | 0, t, hn, h0 => absurd (by rw [hn]) h0
  | n + 1, t, hn, h0 => by
    have hlt : t.val - 1 < cfg0.N := Nat.lt_of_le_of_lt (Nat.sub_le _ _) t.isLt
    have hf : (cfg0.win 5).flush ⟨t.val - 1, hlt⟩ = false :=
      Bool.eq_false_iff.mpr fun h => by
        have h' : (t.val - 1) % 8 = 7 := (flush0_5 ⟨t.val - 1, hlt⟩).mp h
        omega
    rw [(dats m 0 c).before_of_pos 5 t (by omega) ((cfg0.win 5).fetch_out rfl t), hf, if_neg Bool.false_ne_true,
      ← xBlk_congr m c ⟨t.val - 1, hlt⟩ t (by show (t.val - 1) / 8 = t.val / 8; omega)]
    unfold Dat.left
    by_cases h1 : (t.val - 1) % 8 = 0
    · rw [liveAt0_5 ⟨t.val - 1, hlt⟩ h1]
      exact after0_5 m c ⟨t.val - 1, hlt⟩
    · rw [idleAt0_5 ⟨t.val - 1, hlt⟩ h1]
      exact before0_5 c d n ⟨t.val - 1, hlt⟩ (by show t.val - 1 = n; omega) h1

/-- What the body hands back there. -/
theorem leaves0_5 (c : Dev nD) (t : Fin cfg0.N) (h0 : ¬ t.val % 8 = 0) :
    (owns (c : Thread nD τ) (ms0_5 t) fullShare (scalesOf (xBlk m c t)) : sProp 𝕄) ⊢ (dats m 0 c).leavesExact 5 t := by
  unfold Dat.leavesExact
  rw [idleAt0_5 t h0]
  cases hf : (cfg0.win 5).flush t
  · iintro H
    iexists (fun _ => Classical.arbitrary _)
    rw [before0_5 m c _ t.val t rfl h0]
    iexact H
  · show _ ⊢ owns (c : Thread nD τ) (ms0_5 t) fullShare ((dats m 0 c).after 5 t)
    rw [after0_5]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: at the first point of a row block it fills everything; at the others the products, the codes
    and the scales are those of the point before, whose row block is the same. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.castSucc = Inv m c t.castSucc from rfl, show (dats m 0 c).Φ t.succ = Inv m c t.succ from rfl]
  unfold Inv
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hs : xBlk m c ⟨t.succ.val - 1, t.isLt⟩ = xBlk m c t := rfl
  by_cases h0 : t.val % 8 = 0
  · rw [show (dats m 0 c).leavesExact 4 t = owns (c : Thread nD τ) (ms0_4 t) fullShare ((dats m 0 c).after 4 t) from by
      unfold Dat.leavesExact; rw [liveAt0_4 t h0], after0_4]
    rw [show (dats m 0 c).leavesExact 5 t = owns (c : Thread nD τ) (ms0_5 t) fullShare ((dats m 0 c).after 5 t) from by
      unfold Dat.leavesExact; rw [liveAt0_5 t h0], after0_5]
    iintro ⟨⟨⟨⟨%e0, -, HS0⟩, HS1⟩, Hg⟩, Ho, ⟨%d0, H0⟩, ⟨%d1, H1⟩, ⟨%d2, H2⟩, ⟨%d3, H3⟩, ⟨%d4, H4⟩, ⟨%d5, H5⟩⟩
    iapply ((Body.runA c (grid0.coords t) _ _ _ _ _ _ _ _ _ _ _ _ _ _ _ _ ((hcond0_0 t).mpr h0) (sBlk m c t) (xBlk m c t) (wBlk m c t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexists _; iexact HS0
    isplitl [HS1]; · iexact HS1
    iintro ⟨H0, H1, H2, H3, H4, H5, HS0, HS1⟩
    isplitl [HS0 HS1 Hg]
    · isplitl [HS0 HS1]
      · isplitl [HS0]
        · iexists (xaOf (xBlk m c t)); isplitr
          · ipureintro; exact fun _ _ => rfl
          iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have b4 := fun d => before0_4 m c d t.val t rfl h0
    have b5 := fun d => before0_5 m c d t.val t rfl h0
    simp only [b4, b5]
    have hlt : t.val - 1 < cfg0.N := Nat.lt_of_le_of_lt (Nat.sub_le _ _) t.isLt
    iintro ⟨⟨⟨⟨%e0, %he, HS0⟩, HS1⟩, Hg⟩, Ho, ⟨%d0, H0⟩, ⟨%d1, H1⟩, ⟨%d2, H2⟩, ⟨%d3, H3⟩, ⟨%d4, H4⟩, ⟨%d5, H5⟩⟩
    have he' : e0 = xaOf (xBlk m c t) := (he hlt (by show t.val ≠ 0; omega)).trans
      (congrArg xaOf (xBlk_congr m c ⟨t.val - 1, hlt⟩ t (by show (t.val - 1) / 8 = t.val / 8; omega)))
    subst he'
    iapply ((Body.runB c (grid0.coords t) _ _ _ _ _ _ _ _ _ _ _ _ _ _ _ _ (fun h => h0 ((hcond0_0 t).mp h)) (sBlk m c t) (xBlk m c t) (wBlk m c t) (codesOf (xBlk m c t)) (scalesOf (xBlk m c t)) (xaOf (xBlk m c t))) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists (xaOf (xBlk m c t)); isplitr
          · ipureintro; exact fun _ _ => rfl
          iexact HS0
        iexact HS1
      iexact Hg
    isplitl [Ho]; · iexact Ho
    isplitl [H0]; · iexact H0
    isplitl [H1]; · iexact H1
    isplitl [H2]; · iexact H2
    isplitl [H3]; · iexact H3
    isplitl [H4]; · iapply (leaves0_4 m c t h0); iexact H4
    iapply (leaves0_5 m c t h0); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratch may hold anything, -/
theorem inv_in (c : Dev nD) : (Pipeline.ΦA spec0 c : sProp 𝕄) ⊢ (dats m 0 c).Φ 0 := by
  rw [show (dats m 0 c).Φ 0 = Inv m c 0 from rfl, PhiA0_eq]
  unfold Inv
  iintro ⟨⟨⟨%e0, HS0⟩, HS1⟩, Hg⟩
  isplitl [HS0 HS1]
  · isplitl [HS0]
    · iexists _; isplitr; swap; · iexact HS0
      ipureintro; exact fun _ h => absurd rfl h
    iexact HS1
  iexact Hg

/-- and after the last what it holds is forgotten. -/
theorem inv_out (c : Dev nD) : (dats m 0 c).Φ (Fin.last cfg0.N) ⊢ (Pipeline.ΦA spec0 c : sProp 𝕄) := by
  rw [show (dats m 0 c).Φ (Fin.last cfg0.N) = Inv m c (Fin.last cfg0.N) from rfl, PhiA0_eq]
  unfold Inv
  iintro ⟨⟨⟨%e0, -, HS0⟩, HS1⟩, Hg⟩
  isplitl [HS0 HS1]
  · isplitl [HS0]
    · iexists _; iexact HS0
    iexact HS1
  iexact Hg

/-! ## The run and the frame -/

set_option backward.isDefEq.respectTransparency.types false in
/-- The run: every array ends as the blocks written back make it, and every semaphore counter of the machine is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run with the three result arrays read off, beside the arguments. -/
theorem run_results : θ_run defs (onTc (τ := τ) (main (F := F))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_v1_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, (h.1 c).1 4, (h.1 c).1 5, h.2 c⟩)
    (θ_run_and (run_main m ρ) (unchanged m ρ))

end Cert.KernelIdeal.Run

end
-- ==== Proof.Ladder.lean ====
/-
The exponent of the power-of-two scale, over the extended reals. The kernel finds it as the greatest of the 256 words
`k << 23` whose float is at most `t` (`ladder`), and makes the scale and its inverse by integer arithmetic on that
word; the reference takes `⌊log t / log 2⌋ + 1` and raises two to it. `scaleK_eq` and `invK_eq` say that the two ways
agree where `t` is zero or in the range of the normal f32 exponents below `2 ^ 126`.
-/
module

public import Idealize.ShloMosaic.PureOps.Ideal.Laws
public import Idealize.ShloMosaic.PureOps.Reduce
public import Mathlib.Analysis.SpecialFunctions.Log.Basic

@[expose] public section

set_option maxRecDepth 16384

noncomputable section

namespace Cert.Quant

open Idealize.ShloMosaic

/-- The word of the `k`-th power of two of the ladder: exponent field `k`, fraction zero. -/
def field (k : ℕ) : BitVec 32 := BitVec.ofNat 32 (k * 2 ^ 23)

/-- Shifting a lane number left by 23 gives the lane's word. -/
theorem shl_field : ∀ k : Fin 256, IntOp.shli .vector (BitVec.ofNat 32 k.val) 23#32 = field k.val := by
  intro k
  unfold IntOp.shli
  rw [if_pos (by decide)]
  revert k
  decide +kernel

/-- The float of a word of the ladder with a normal exponent. -/
theorem ofBits_field (E : ℕ) (h1 : 1 ≤ E) (h2 : E ≤ 254) :
    Ideal.ofBits .f32 (field E) = (((2 : ℝ) ^ ((E : ℤ) - 127) : ℝ) : EReal) := by
  have hn : (field E).toNat = E * 2 ^ 23 := by
    unfold field; rw [BitVec.toNat_ofNat]; omega
  have hneg : ((field E).extractLsb' (8 + 23) 1 == 1#1) = false := by
    rw [beq_eq_false_iff_ne]
    intro h
    have := congrArg BitVec.toNat h
    rw [BitVec.extractLsb'_toNat, hn, Nat.shiftRight_eq_div_pow] at this
    simp at this
    omega
  have hex : ((field E).extractLsb' 23 8).toNat = E := by
    rw [BitVec.extractLsb'_toNat, hn, Nat.shiftRight_eq_div_pow]; omega
  have hfr : ((field E).extractLsb' 0 23).toNat = 0 := by
    rw [BitVec.extractLsb'_toNat, hn, Nat.shiftRight_eq_div_pow]; omega
  show Ideal.ieee 8 23 (field E) = _
  unfold Ideal.ieee
  simp only [hneg, hex, hfr]
  rw [if_neg (by omega), if_neg (by omega)]
  congr 1
  have : ((E : ℤ) - 127) = ((23 : ℕ) : ℤ) + ((E : ℤ) - (2 ^ (8 - 1) - 1) - (23 : ℕ)) := by norm_num
  rw [this, zpow_add₀ (by norm_num)]
  norm_num

/-- The ladder's lowest word is the float zero. -/
theorem ofBits_field_zero : Ideal.ofBits .f32 (field 0) = 0 := by
  show Ideal.ieee 8 23 (field 0) = _
  have e1 : ((field 0).extractLsb' 23 8).toNat = 0 := by decide
  have e2 : ((field 0).extractLsb' 0 23).toNat = 0 := by decide
  unfold Ideal.ieee
  simp only [e1, e2]
  simp

/-- The ladder's highest word is positive infinity. -/
theorem ofBits_field_top : Ideal.ofBits .f32 (field 255) = ⊤ := by
  show Ideal.ieee 8 23 (field 255) = _
  have e0 : ((field 255).extractLsb' (8 + 23) 1 == 1#1) = false := by decide
  have e1 : ((field 255).extractLsb' 23 8).toNat = 255 := by decide
  have e2 : ((field 255).extractLsb' 0 23).toNat = 0 := by decide
  unfold Ideal.ieee
  simp only [e0, e1, e2]
  simp

/-- The greatest word of the ladder whose float is at most `t`, as the kernel's reduction folds it. -/
def ladder (t : EReal) : BitVec 32 :=
  Finset.univ.fold IntOp.maxsi 2147483648#32
    (fun k : Fin 256 => if Ideal.ofBits .f32 (field k.val) ≤ t then field k.val else 0#32)

/-- A word of the ladder as a signed integer. -/
theorem toInt_field (k : Fin 256) : (field k.val).toInt = k.val * 2 ^ 23 := by
  revert k; decide +kernel

/-- The ladder stops at the exponent of `t`. -/
theorem ladder_eq (t : EReal) (E : ℕ) (hE : E ≤ 254) (hlo : Ideal.ofBits .f32 (field E) ≤ t)
    (hhi : ∀ k : Fin 256, E < k.val → ¬ Ideal.ofBits .f32 (field k.val) ≤ t) : ladder t = field E := by
  apply BitVec.eq_of_toInt_eq
  have hmax : ∀ x y : BitVec 32, (IntOp.maxsi x y).toInt = max x.toInt y.toInt := by
    intro x y
    unfold IntOp.maxsi BitVec.slt
    by_cases h : y.toInt < x.toInt
    · simp only [h, decide_true, if_true]; omega
    · simp only [h, decide_false, Bool.false_eq_true, if_false]; omega
  unfold ladder
  rw [← Finset.fold_hom (op := IntOp.maxsi) (op' := max) (m := BitVec.toInt) (fun x y => hmax x y),
    toInt_field ⟨E, by omega⟩]
  apply le_antisymm
  · rw [Finset.fold_max_le]
    refine ⟨?_, fun k _ => ?_⟩
    · have : (2147483648#32 : BitVec 32).toInt = -2147483648 := by decide
      rw [this]
      have : (0 : ℤ) ≤ (⟨E, by omega⟩ : Fin 256).val * 2 ^ 23 := by positivity
      omega
    · by_cases h : Ideal.ofBits .f32 (field k.val) ≤ t
      · rw [if_pos h, toInt_field k]
        have : k.val ≤ E := by
          by_contra hc; exact hhi k (by omega) h
        have : (k.val : ℤ) ≤ E := by exact_mod_cast this
        nlinarith
      · rw [if_neg h]
        have : (0#32 : BitVec 32).toInt = 0 := by decide
        rw [this]; positivity
  · rw [Finset.le_fold_max]
    right
    refine ⟨⟨E, by omega⟩, Finset.mem_univ _, ?_⟩
    rw [if_pos hlo, toInt_field ⟨E, by omega⟩]

/-- The exponent word the kernel scales by: the ladder's, one half for zero. -/
def bitsK (t : EReal) : BitVec 32 := if ladder t = 0#32 then 1056964608#32 else ladder t

/-- The kernel's scale. -/
def scaleK (t : EReal) : EReal := Ideal.ofBits .f32 (bitsK t + 8388608#32)

/-- The kernel's inverse scale. -/
def invK (t : EReal) : EReal := Ideal.ofBits .f32 (2122317824#32 - bitsK t)

/-- The reference's exponent, for a block of greatest magnitude `a` and quotient `t`. -/
def expR (a t : EReal) : EReal :=
  if a = 0 then Ideal.ofBits .f32 0x00000000#32
  else FloatOps.floor (F := Ideal) (φ := .f32) (Ideal.div (Ideal.log t) (Ideal.log (Ideal.ofBits .f32 0x40000000#32)))
    + Ideal.ofBits .f32 0x3F800000#32

/-- What the precondition says of a block: its greatest magnitude `a` is zero, or `t` is in the normal range. -/
def InRange (a t : EReal) : Prop :=
  a = 0 ∨ (Ideal.ofBits .f32 0x00800000#32 ≤ t ∧ t < Ideal.ofBits .f32 0x7E800000#32)

/-- An integer power of two is at most `r` where its exponent is at most the binary logarithm of `r`. -/
theorem zpow_le_iff (n : ℤ) (r : ℝ) (hr : 0 < r) : (2 : ℝ) ^ n ≤ r ↔ (n : ℝ) ≤ Real.log r / Real.log 2 := by
  have hlogpos : (0 : ℝ) < Real.log 2 := Real.log_pos (by norm_num)
  rw [le_div_iff₀ hlogpos, ← Real.log_zpow, Real.log_le_log_iff (by positivity) hr]

/-- In the normal range, the kernel's word and the reference's exponent are those of one binade. -/
theorem binade (a t : EReal) (ha : a ≠ 0) (h : InRange a t) :
    ∃ E : ℕ, 1 ≤ E ∧ E ≤ 252 ∧ bitsK t = field E ∧ expR a t = ((((E : ℤ) - 126 : ℤ) : ℝ) : EReal) := by
  obtain ⟨hlo, hhi⟩ := h.resolve_left ha
  rw [show (0x00800000#32 : BitVec 32) = field 1 from by decide, ofBits_field 1 (by omega) (by omega)] at hlo
  rw [show (0x7E800000#32 : BitVec 32) = field 253 from by decide, ofBits_field 253 (by omega) (by omega)] at hhi
  induction t with
  | bot => exact absurd hlo (by simp)
  | top => exact absurd hhi (by simp)
  | coe r =>
    rw [EReal.coe_le_coe_iff] at hlo
    rw [EReal.coe_lt_coe_iff] at hhi
    have hr : 0 < r := lt_of_lt_of_le (by positivity) hlo
    obtain ⟨z, hz⟩ : ∃ z : ℤ, z = ⌊Real.log r / Real.log 2⌋ := ⟨_, rfl⟩
    have hiff : ∀ n : ℤ, (2 : ℝ) ^ n ≤ r ↔ n ≤ z := fun n => by rw [zpow_le_iff n r hr, hz, Int.le_floor]
    have hlog1 : -126 ≤ z := (hiff _).mp (by simpa using hlo)
    have hlog2 : z < 126 := by
      by_contra hc
      exact absurd ((hiff 126).mpr (by omega)) (not_le.mpr (by simpa using hhi))
    obtain ⟨E, hE⟩ : ∃ E : ℕ, (E : ℤ) = z + 127 := ⟨(z + 127).toNat, by omega⟩
    have hE1 : 1 ≤ E := by omega
    have hE2 : E ≤ 252 := by omega
    have hlad : ladder (r : EReal) = field E := by
      apply ladder_eq _ _ (by omega)
      · rw [ofBits_field E hE1 (by omega), EReal.coe_le_coe_iff, hiff]
        omega
      · intro k hk
        by_cases h255 : k.val = 255
        · rw [h255, ofBits_field_top]; simp
        · have hk' := k.isLt
          rw [ofBits_field k.val (by omega) (by omega), EReal.coe_le_coe_iff, hiff]
          omega
    refine ⟨E, hE1, hE2, ?_, ?_⟩
    · unfold bitsK
      rw [hlad, if_neg]
      intro h
      have := congrArg BitVec.toInt h
      rw [toInt_field ⟨E, by omega⟩] at this
      have h0 : (0#32 : BitVec 32).toInt = 0 := by decide
      rw [h0] at this
      simp at this; omega
    · unfold expR
      rw [if_neg ha, show (0x40000000#32 : BitVec 32) = field 128 from by decide,
        ofBits_field 128 (by omega) (by omega), show (0x3F800000#32 : BitVec 32) = field 127 from by decide,
        ofBits_field 127 (by omega) (by omega)]
      have hl2 : Ideal.log (((2 : ℝ) ^ (((128 : ℕ) : ℤ) - 127) : ℝ) : EReal) = ((Real.log 2 : ℝ) : EReal) := by
        have h2 : (2 : ℝ) ^ (((128 : ℕ) : ℤ) - 127) = 2 := by norm_num
        rw [h2]
        show (if (2 : ℝ) ≤ 0 then (⊥ : EReal) else _) = _
        rw [if_neg (by norm_num)]
      have hlr : Ideal.log (r : EReal) = ((Real.log r : ℝ) : EReal) := by
        show (if r ≤ 0 then (⊥ : EReal) else _) = _
        rw [if_neg (not_le.mpr hr)]
      rw [hl2, hlr]
      have hlogpos : (0 : ℝ) < Real.log 2 := Real.log_pos (by norm_num)
      have hdiv : Ideal.div ((Real.log r : ℝ) : EReal) ((Real.log 2 : ℝ) : EReal)
          = ((Real.log r / Real.log 2 : ℝ) : EReal) := by
        unfold Ideal.div
        rw [if_neg (by simpa using hlogpos.ne'), ← EReal.coe_inv, ← EReal.coe_mul]
        rfl
      have hfl : FloatOps.floor (F := Ideal) (φ := .f32) ((Real.log r / Real.log 2 : ℝ) : EReal)
          = (((⌊Real.log r / Real.log 2⌋ : ℤ) : ℝ) : EReal) := rfl
      rw [hdiv, hfl, ← EReal.coe_add]
      congr 1
      rw [← hz, show z = (E : ℤ) - 127 from by omega]
      push_cast; norm_num; ring

/-- Two to an integer power, as the idealized `exp2` takes it. -/
theorem exp2_int (z : ℤ) : Ideal.exp2 (((z : ℝ)) : EReal) = (((2 : ℝ) ^ z : ℝ) : EReal) := by
  show ((Real.rpow 2 (z : ℝ) : ℝ) : EReal) = _
  rw [show Real.rpow 2 (z : ℝ) = (2 : ℝ) ^ (z : ℝ) from rfl, Real.rpow_intCast]

/-- The ladder stops at its lowest word for a zero. -/
theorem ladder_zero : ladder 0 = field 0 := by
  apply ladder_eq _ _ (by omega) (by rw [ofBits_field_zero])
  intro k hk
  by_cases h255 : k.val = 255
  · rw [h255, ofBits_field_top]; simp
  · have hk' := k.isLt
    rw [ofBits_field k.val (by omega) (by omega), not_le]
    exact_mod_cast (by positivity : (0 : ℝ) < (2 : ℝ) ^ ((k.val : ℤ) - 127))

/-- The word for a zero has the exponent of one half. -/
theorem bitsK_zero : bitsK 0 = field 126 := by
  unfold bitsK
  rw [if_pos (ladder_zero.trans (by decide))]
  decide

/-- Adding the exponent's unit to a word goes to the next word. -/
theorem field_succ (E : ℕ) : field E + 8388608#32 = field (E + 1) := by
  have h : (8388608#32 : BitVec 32) = BitVec.ofNat 32 (2 ^ 23) := by decide
  unfold field
  rw [h, ← BitVec.ofNat_add, Nat.add_mul, Nat.one_mul]

/-- Subtracting a word from the greatest finite power's word. -/
theorem field_sub (E : ℕ) (h : E ≤ 253) : 2122317824#32 - field E = field (253 - E) := by
  have h0 : (2122317824#32 : BitVec 32) = field (253 - E) + field E := by
    have h1 : (2122317824#32 : BitVec 32) = BitVec.ofNat 32 (253 * 2 ^ 23) := by decide
    unfold field
    rw [h1, ← BitVec.ofNat_add, ← Nat.add_mul, Nat.sub_add_cancel h]
  rw [h0, BitVec.add_sub_cancel]

/-- The word and the exponent of one binade, a zero included. -/
theorem binade' (a t : EReal) (ht : a = 0 → t = 0) (h : InRange a t) :
    ∃ E : ℕ, 1 ≤ E ∧ E ≤ 252 ∧ bitsK t = field E ∧ expR a t = ((((E : ℤ) - 126 : ℤ) : ℝ) : EReal) := by
  by_cases ha : a = 0
  · refine ⟨126, by omega, by omega, by rw [ht ha, bitsK_zero], ?_⟩
    unfold expR
    rw [if_pos ha]
    have h0 : (0x00000000#32 : BitVec 32) = field 0 := by decide
    refine (congrArg (Ideal.ofBits .f32) h0).trans (ofBits_field_zero.trans ?_)
    norm_num
  · exact binade a t ha h

/-- The kernel's scale is two to the reference's exponent. -/
theorem scaleK_eq (a t : EReal) (ht : a = 0 → t = 0) (h : InRange a t) : scaleK t = Ideal.exp2 (expR a t) := by
  obtain ⟨E, h1, h2, hb, he⟩ := binade' a t ht h
  unfold scaleK
  rw [hb, he, exp2_int, field_succ, ofBits_field (E + 1) (by omega) (by omega),
    show (((E + 1 : ℕ) : ℤ) - 127) = (E : ℤ) - 126 from by omega]

/-- The kernel's inverse scale is two to minus the reference's exponent. -/
theorem invK_eq (a t : EReal) (ht : a = 0 → t = 0) (h : InRange a t) :
    invK t = Ideal.exp2 (Ideal.ofBits .f32 0x00000000#32 - expR a t) := by
  obtain ⟨E, h1, h2, hb, he⟩ := binade' a t ht h
  have h0 : Ideal.ofBits .f32 0x00000000#32 = 0 :=
    (congrArg (Ideal.ofBits .f32) (show (0x00000000#32 : BitVec 32) = field 0 from by decide)).trans ofBits_field_zero
  unfold invK
  rw [hb, he, h0, zero_sub, ← EReal.coe_neg,
    show (-(((E : ℤ) - 126 : ℤ) : ℝ)) = ((126 - (E : ℤ) : ℤ) : ℝ) from by push_cast; ring, exp2_int,
    field_sub E (by omega), ofBits_field (253 - E) (by omega) (by omega),
    show (((253 - E : ℕ) : ℤ) - 127) = 126 - (E : ℤ) from by omega]

end Cert.Quant

end
-- ==== Proof.TileValue.lean ====
module

public import proofs.«01_k».proof.Proof.Rows
public import proofs.«01_k».proof.Proof.Weights
public import proofs.«01_k».proof.Proof.Ladder
public import Idealize.ShloMosaic.PureOps.Ideal.Laws
public import Idealize.ShloMosaic.Lib.ValueIdx

@[expose] public section

/-!
# What one tile of the kernel computes, over the extended reals

A group is 128 values of one row of `x`. `gScale` is the power-of-two scale the kernel gives it and `gCode` its codes;
`qScale_apply`, `qCodes_apply` and `qXa_apply` say that a tile of 64 rows computes these of each of its rows.
-/

set_option maxRecDepth 16384

noncomputable section

namespace Cert.Quant

open Idealize.ShloMosaic Idealize.ShloMosaic.ValueIdx
open Cert.KernelIdeal Cert.KernelIdeal.Gen

/-- The greatest absolute value of a group. -/
def amax (g : Fin 128 → EReal) : EReal := Finset.univ.fold max ⊥ fun k => max (g k) (-(g k))
/-- The greatest absolute value times the constant near `1 / 448`. -/
def tOf (g : Fin 128 → EReal) : EReal := amax g * Ideal.ofBits .f32 0x3B124925#32
/-- The kernel's scale of a group. -/
def gScale (g : Fin 128 → EReal) : EReal := scaleK (tOf g)
/-- The kernel's code of a group's value `y`: `y` over the scale, clamped to `±448`. -/
def gCode (g : Fin 128 → EReal) (y : EReal) : EReal :=
  min (Ideal.ofBits .f32 0x43E00000#32) (max (Ideal.ofBits .f32 0xC3E00000#32) (y * invK (tOf g)))

/-- The bf16 pattern of negative infinity. -/
theorem ofBits_bf16_neg_inf : Ideal.ofBits .bf16 0xFF80#16 = ⊥ := by
  show Ideal.ieee 8 7 (0xFF80#16) = _
  have e0 : ((0xFF80#16 : BitVec 16).extractLsb' (8 + 7) 1 == 1#1) = true := by decide
  have e1 : ((0xFF80#16 : BitVec 16).extractLsb' 7 8).toNat = 255 := by decide
  have e2 : ((0xFF80#16 : BitVec 16).extractLsb' 0 7).toNat = 0 := by decide
  unfold Ideal.ieee
  simp only [e0, e1, e2]
  simp

/-- The f32 pattern of negative infinity. -/
theorem ofBits_f32_neg_inf : Ideal.ofBits .f32 0xFF800000#32 = ⊥ := by
  show Ideal.ieee 8 23 (0xFF800000#32) = _
  have e0 : ((0xFF800000#32 : BitVec 32).extractLsb' (8 + 23) 1 == 1#1) = true := by decide
  have e1 : ((0xFF800000#32 : BitVec 32).extractLsb' 23 8).toNat = 255 := by decide
  have e2 : ((0xFF800000#32 : BitVec 32).extractLsb' 0 23).toNat = 0 := by decide
  unfold Ideal.ieee
  simp only [e0, e1, e2]
  simp

/-- Row `i` of a tile as a group. -/
def rowOf (v : Vec Ideal S64x128 .bf16) (i : Fin 64) : Fin 128 → EReal := fun k => v (ix2 i k)

attribute [local irreducible] multiReduction multiReductionI iota shapeCast broadcastTo

/-- A column of 64 cast from a vector of 64, at a row. -/
theorem col_apply {α : Type} (x : S64.Idx → α) (h : S64.ShapeCasts S64x1) (i : Fin 64) :
    shapeCast S64x1 x h (ix2 i 0) = x (ix1 i) := by
  refine shapeCast_apply x h _ _ ?_
  rw [Shape.rowMajor_val_one, Shape.rowMajor_val_two]
  show i.val = i.val * 1 + 0
  omega

/-- A column of 64 broadcast along rows, at a place. -/
theorem bcol_apply {α : Type} {n : ℕ} (x : S64x1.Idx → α) (h : S64x1.Broadcasts (⟨2, ![64, n]⟩ : Shape)) (i : Fin 64) (j : Fin n) :
    broadcastTo (⟨2, ![64, n]⟩ : Shape) x h (ix2 i j) = x (ix2 i 0) := by
  refine broadcastTo_apply x h _ _ ?_
  intro a
  fin_cases a <;> rfl

/-- The greatest absolute value of each row of a tile. -/
theorem max_apply (v : Vec Ideal S64x128 .bf16) (hφ : FKind.Formats .bf16) (hacc : 0xFF80#16 = FKind.maximumf.neutral .bf16 hφ) (i : Fin 64) :
    multiReduction (F := Ideal) (φ := .bf16) .maximumf [1] S64 (absf v) 0xFF80#16 reduces_S64x128_S64 hφ hacc (ix1 i) = amax (rowOf v i) := by
  rw [Ideal.multiReduction_maximumf_single]
  show Finset.fold max (Ideal.ofBits .bf16 0xFF80#16) _ _ = _
  rw [ofBits_bf16_neg_inf]
  unfold amax
  refine Finset.fold_congr fun k _ => ?_
  have e : reduces_S64x128_S64.lift (ix1 i) k = ix2 i k := by
    rw [eq_ix2 (reduces_S64x128_S64.lift (ix1 i) k)]; rfl
  show max (v _) (-(v _)) = _
  rw [e]; rfl

/-- The greatest absolute values of a tile's rows, as the kernel builds them. -/
def rowMax (v : Vec Ideal S64x128 .bf16) : FVec Ideal S64 .bf16 :=
  multiReduction (F := Ideal) (φ := .bf16) .maximumf [1] S64 (absf v) 0xFF80#16 reduces_S64x128_S64 (.inr rfl) rfl

/-- One of them. -/
theorem rowMax_apply (v : Vec Ideal S64x128 .bf16) (i : Fin 64) : rowMax v (ix1 i) = amax (rowOf v i) :=
  max_apply v (.inr rfl) rfl i

/-- The ladder's words, as the kernel builds them. -/
def words : IVec S64x256 32 := shli (iota .tc S64x256 32 [1] iota_S64x256_d1_w32) (broadcast S64x256 23#32)

/-- A word of the ladder. -/
theorem words_apply (i : Fin 64) (k : Fin 256) : words (ix2 i k) = field k.val := by
  show IntOp.shli .vector (iota .tc S64x256 32 [1] iota_S64x256_d1_w32 (ix2 i k)) 23#32 = _
  rw [iota_single_apply]
  exact shl_field k

/-- The ladder's floats where they are at most `t`, as the kernel builds them. -/
def rungs (t : FVec Ideal S64x1 .f32) : IVec S64x256 32 :=
  select (cmpf .oge (broadcastTo S64x256 t broadcasts_S64x1_S64x256) (bitcastToFloat .f32 words)) words (broadcast S64x256 0#32)

/-- One of them. -/
theorem rungs_apply (t : FVec Ideal S64x1 .f32) (i : Fin 64) (k : Fin 256) :
    rungs t (ix2 i k) = if Ideal.ofBits .f32 (field k.val) ≤ t (ix2 i 0) then field k.val else 0#32 := by
  unfold rungs
  rw [select_apply, cmpf_apply, bcol_apply, broadcast_apply, words_apply]
  have e : bitcastToFloat (F := Ideal) .f32 words (ix2 i k) = Ideal.ofBits .f32 (field k.val) := by
    rw [← words_apply i k]; rfl
  rw [e]
  show Scalar.select (Ideal.cmp .oge (t (ix2 i 0)) (Ideal.ofBits .f32 (field k.val))) _ 0#32 = _
  by_cases hc : Ideal.ofBits .f32 (field k.val) ≤ t (ix2 i 0)
  · rw [if_pos hc]
    simp [Ideal.cmp, Scalar.select, hc]
  · rw [if_neg hc]
    simp [Ideal.cmp, Scalar.select, hc]

/-- The greatest of a row of rungs. -/
theorem rungs_max (t : FVec Ideal S64x1 .f32) (h : 2147483648#32 = IKind.maxsi.neutral) (i : Fin 64) :
    multiReductionI .maxsi [1] S64 (rungs t) 2147483648#32 reduces_S64x256_S64 h (ix1 i) = ladder (t (ix2 i 0)) := by
  rw [multiReductionI_eq_fold]
  refine (Shape.Reduces.fold_filter_drop_single reduces_S64x256_S64 IntOp.maxsi _ _ _).trans ?_
  unfold ladder
  refine Finset.fold_congr fun k _ => ?_
  have e : reduces_S64x256_S64.lift (ix1 i) k = ix2 i k := by
    rw [eq_ix2 (reduces_S64x256_S64.lift (ix1 i) k)]; rfl
  rw [Function.comp_apply, e]
  exact rungs_apply t i k

/-- The greatest rungs of a tile's rows, as the kernel builds them. -/
def rungMax (t : FVec Ideal S64x1 .f32) : IVec S64 32 :=
  multiReductionI .maxsi [1] S64 (rungs t) 2147483648#32 reduces_S64x256_S64 rfl

/-- One of them. -/
theorem rungMax_apply (t : FVec Ideal S64x1 .f32) (i : Fin 64) : rungMax t (ix1 i) = ladder (t (ix2 i 0)) :=
  rungs_max t rfl i

/-- The kernel's `t` of each row of a tile. -/
def tCol (v : Vec Ideal S64x128 .bf16) : FVec Ideal S64x1 .f32 :=
  mulf (extf .f32 (shapeCast S64x1 (rowMax (k0_pay4 v)) shapeCasts_S64_S64x1) bitsLt_bf16_f32)
    (broadcast S64x1 (Scalar.ofBits (F := Ideal) .f32 0x3B124925#32))

/-- The kernel's cast of a tile to its own shape. -/
theorem pay4_eq (v : Vec Ideal S64x128 .bf16) : k0_pay4 v = v := shapeCast_self v _

/-- The kernel's `t` of a row. -/
theorem tCol_apply (v : Vec Ideal S64x128 .bf16) (i : Fin 64) : tCol v (ix2 i 0) = tOf (rowOf v i) := by
  unfold tCol tOf
  rw [mulf_apply, extf_apply, col_apply, pay4_eq, rowMax_apply, broadcast_apply]
  rfl

/-- The kernel's exponent words of a tile, by the pieces above. -/
theorem pay5_eq (v : Vec Ideal S64x128 .bf16) : k0_pay5 v =
    select (cmpi .eq (shapeCast S64x1 (rungMax (tCol v)) shapeCasts_S64_S64x1) (broadcast S64x1 0#32))
      (broadcast S64x1 1056964608#32)
      (shapeCast S64x1 (rungMax (tCol v)) shapeCasts_S64_S64x1) := by
  unfold rungMax rungs words tCol rowMax
  rfl

/-- The kernel's exponent word of each row of a tile. -/
theorem bits_apply (v : Vec Ideal S64x128 .bf16) (i : Fin 64) : k0_pay5 v (ix2 i 0) = bitsK (tOf (rowOf v i)) := by
  rw [pay5_eq, select_apply, col_apply, rungMax_apply, tCol_apply, broadcast_apply]
  have e : cmpi .eq (shapeCast S64x1 (rungMax (tCol v)) shapeCasts_S64_S64x1) (broadcast S64x1 0#32) (ix2 i 0)
      = IntOp.cmpi .eq (ladder (tOf (rowOf v i))) 0#32 := by
    show IntOp.cmpi .eq (shapeCast S64x1 _ _ (ix2 i 0)) 0#32 = _
    rw [col_apply, rungMax_apply, tCol_apply]
  rw [e]
  unfold bitsK
  by_cases hz : ladder (tOf (rowOf v i)) = 0#32
  · rw [hz, if_pos rfl]; rfl
  · rw [if_neg hz]
    simp [IntOp.cmpi, Scalar.select, beq_eq_false_iff_ne.mpr hz]

/-- The scale of a row of a tile. -/
theorem qScale_apply (v : Vec Ideal S64x128 .bf16) (i : Fin 64) : qScale v (ix2 i 0) = gScale (rowOf v i) := by
  have e : qScale v (ix2 i 0) = Ideal.ofBits .f32 (k0_pay5 v (ix2 i 0) + 8388608#32) := rfl
  rw [e, bits_apply]
  unfold gScale scaleK
  rfl

/-- The inverse scales of a tile, one to a row. -/
def invCol (v : Vec Ideal S64x128 .bf16) : FVec Ideal S64x1 .bf16 :=
  truncf .bf16 (bitcastToFloat (F := Ideal) .f32 (subi (broadcast S64x1 2122317824#32) (k0_pay5 v))) bitsLt_bf16_f32

/-- The inverse scale of a row. -/
theorem invCol_apply (v : Vec Ideal S64x128 .bf16) (i : Fin 64) : invCol v (ix2 i 0) = invK (tOf (rowOf v i)) := by
  have e : invCol v (ix2 i 0) = Ideal.ofBits .f32 (2122317824#32 - k0_pay5 v (ix2 i 0)) := rfl
  rw [e, bits_apply]
  unfold invK
  rfl

/-- The codes of a tile before the clamp from above. -/
theorem pay7_eq (v : Vec Ideal S64x128 .bf16) : k0_pay7 v =
    maximumf (broadcast S64x128 (Scalar.truncf .bf16 bitsLt_bf16_f32 (Scalar.ofBits (F := Ideal) .f32 0xC3E00000#32)))
      (mulf (k0_pay4 v) (broadcastTo S64x128 (invCol v) broadcasts_S64x1_S64x128)) := by
  unfold k0_pay7 invCol; rfl

/-- The codes of a row of a tile. -/
theorem qCodes_apply (v : Vec Ideal S64x128 .bf16) (i : Fin 64) (j : Fin 128) :
    qCodes v (ix2 i j) = gCode (rowOf v i) (v (ix2 i j)) := by
  unfold qCodes k0_pay9 k0_pay8 gCode
  rw [pay7_eq, truncf_apply, minimumf_apply, maximumf_apply, mulf_apply, bcol_apply, invCol_apply, pay4_eq, broadcast_apply, broadcast_apply]
  rfl

/-- The codes of a row of a tile times its scale. -/
theorem qXa_apply (v : Vec Ideal S64x128 .bf16) (i : Fin 64) (j : Fin 128) :
    qXa v (ix2 i j) = gCode (rowOf v i) (v (ix2 i j)) * gScale (rowOf v i) := by
  unfold qXa k0_pay10
  rw [shapeCast_self, mulf_apply, extf_apply, bcol_apply, truncf_apply, ← qScale_apply, ← qCodes_apply]
  unfold qScale qCodes
  rfl

/-- A scaled weight. -/
theorem qW_apply (s : EReal) (w : Vec Ideal S128x128 .fp8e4m3) (i : S128x128.Idx) :
    qW (F := Ideal) s w i = w i * s := by
  unfold qW k0_pay403
  rw [shapeCast_self, mulf_apply, extf_apply, truncf_apply, broadcast_apply]

end Cert.Quant
-- ==== Proof.BlockValue.lean ====
module

public import proofs.«01_k».proof.Proof.TileValue
public import Idealize.ShloMosaic.Lib.MatmulPlain

@[expose] public section

/-!
# What one block of the kernel computes, over the extended reals

The codes, scales and products of a block of 512 rows, the scaled weights of a block of 512 columns, and the product of
the two, each read at an index.
-/

set_option maxRecDepth 16384

noncomputable section

namespace Cert.Quant

open Idealize.ShloMosaic Idealize.ShloMosaic.ValueIdx
open Cert.KernelIdeal Cert.KernelIdeal.Gen

/-- Column `k` of column block `b`. -/
def colAt (b : Fin 54) (k : Fin 128) : Fin 6912 := ⟨128 * b.val + k.val, by omega⟩
/-- The group of row `r` in column block `b`. -/
def groupOf {n : ℕ} (X : (⟨2, ![n, 6912]⟩ : Shape).Idx → EReal) (r : Fin n) (b : Fin 54) : Fin 128 → EReal :=
  fun k => X (ix2 r (colAt b k))

/-- A tile read at a place. -/
theorem tile_apply (B : Vec Ideal S512x6912 .bf16) (a : Fin 8) (b : Fin 54) (i : Fin 64) (j : Fin 128) :
    tile B a b (ix2 i j) = B (ix2 ⟨64 * a.val + i.val, by omega⟩ (colAt b j)) := by
  show B _ = B _
  refine congrArg B (funext fun d => Fin.ext ?_)
  match d with
  | ⟨0, _⟩ => show 64 * a.val + 1 * i.val = 64 * a.val + i.val; omega
  | ⟨1, _⟩ => show 128 * b.val + 1 * j.val = 128 * b.val + j.val; omega

/-- The place of `(r, c)` inside its tile, by coordinates. -/
theorem inTile_eq (r : Fin 512) (c : Fin 6912) :
    inTile r c = ix2 ⟨r.val % 64, Nat.mod_lt _ (by decide)⟩ ⟨c.val % 128, Nat.mod_lt _ (by decide)⟩ := by
  funext d
  match d with
  | ⟨0, _⟩ => rfl
  | ⟨1, _⟩ => rfl

/-- The place of row `r` in its column of 64, by coordinates. -/
theorem inCol_eq (r : Fin 512) : inCol r = ix2 ⟨r.val % 64, Nat.mod_lt _ (by decide)⟩ 0 := by
  funext d
  match d with
  | ⟨0, _⟩ => rfl
  | ⟨1, _⟩ => rfl

/-- A row of the tile that has row `r` is the group of row `r`. -/
theorem rowOf_tile (B : Vec Ideal S512x6912 .bf16) (r : Fin 512) (b : Fin 54) :
    rowOf (tile B (bandOf r) b) ⟨r.val % 64, Nat.mod_lt _ (by decide)⟩ = groupOf (n := 512) B r b := by
  funext k
  unfold rowOf groupOf
  rw [tile_apply]
  refine congrArg B (congrArg (fun x => ix2 x (colAt b k)) (Fin.ext ?_))
  show 64 * (r.val / 64) + r.val % 64 = r.val
  omega

/-- A tile read at the place of `(r, c)`. -/
theorem tile_inTile (B : Vec Ideal S512x6912 .bf16) (r : Fin 512) (c : Fin 6912) :
    tile B (bandOf r) (blockOf c) (ix2 ⟨r.val % 64, Nat.mod_lt _ (by decide)⟩ ⟨c.val % 128, Nat.mod_lt _ (by decide)⟩) = B (ix2 r c) := by
  rw [tile_apply]
  have e0 : (⟨64 * (bandOf r).val + r.val % 64, by have := r.isLt; show 64 * (r.val / 64) + r.val % 64 < 512; omega⟩ : Fin 512) = r := by
    apply Fin.ext; show 64 * (r.val / 64) + r.val % 64 = r.val; omega
  have e1 : colAt (blockOf c) ⟨c.val % 128, Nat.mod_lt _ (by decide)⟩ = c := by
    apply Fin.ext; show 128 * (c.val / 128) + c.val % 128 = c.val; omega
  exact congrArg B (congrArg₂ ix2 e0 e1)

/-- A block's codes. -/
theorem codesOf_apply (B : Vec Ideal S512x6912 .bf16) (r : Fin 512) (c : Fin 6912) :
    codesOf B (ix2 r c) = gCode (groupOf (n := 512) B r (blockOf c)) (B (ix2 r c)) := by
  have e : codesOf B (ix2 r c) = qCodes (tile B (bandOf r) (blockOf c)) (inTile r c) := rfl
  rw [e, inTile_eq, qCodes_apply, rowOf_tile, tile_inTile]

/-- A block's codes times their scales. -/
theorem xaOf_apply (B : Vec Ideal S512x6912 .bf16) (r : Fin 512) (c : Fin 6912) :
    xaOf B (ix2 r c) = gCode (groupOf (n := 512) B r (blockOf c)) (B (ix2 r c)) * gScale (groupOf (n := 512) B r (blockOf c)) := by
  have e : xaOf B (ix2 r c) = qXa (tile B (bandOf r) (blockOf c)) (inTile r c) := rfl
  rw [e, inTile_eq, qXa_apply, rowOf_tile, tile_inTile]

/-- A block's scales. -/
theorem scalesOf_apply (B : Vec Ideal S512x6912 .bf16) (r : Fin 512) (b : Fin 54) :
    scalesOf B (ix2 r b) = gScale (groupOf (n := 512) B r b) := by
  have e : scalesOf B (ix2 r b) = qScale (tile B (bandOf r) b) (inCol r) := rfl
  rw [e, inCol_eq, qScale_apply, rowOf_tile]

/-- A block's scaled weights. -/
theorem waOf_apply (S : Vec Ideal S54x32 .f32) (W : Vec Ideal S6912x512 .fp8e4m3) (n : Fin 8) (k : Fin 6912) (c : Fin 512) :
    waOf S W n (ix2 k c) = W (ix2 k c) * S (wsAt n (wBand k) (wBlock c)) := by
  have e : waOf S W n (ix2 k c) = qW (F := Ideal) (S (wsAt n (wBand k) (wBlock c))) (View.ld W (wTileAt (wBand k) (wBlock c))) (inW k c) := rfl
  have ew : (View.ld W (wTileAt (wBand k) (wBlock c)) : Vec Ideal S128x128 .fp8e4m3) (inW k c) = W (ix2 k c) := by
    show W _ = W _
    refine congrArg W (funext fun d => Fin.ext ?_)
    match d with
    | ⟨0, _⟩ => show 128 * (k.val / 128) + 1 * (k.val % 128) = k.val; omega
    | ⟨1, _⟩ => show 128 * (c.val / 128) + 1 * (c.val % 128) = c.val; omega
  exact e.trans ((qW_apply _ _ _).trans (congrArg (fun x : EReal => x * S (wsAt n (wBand k) (wBlock c))) ew))

/-- The product of two blocks. -/
theorem prod_apply (A : Vec Ideal S512x6912 .bf16) (B : Vec Ideal S6912x512 .bf16) (r c : Fin 512) :
    k0_pay2 (F := Ideal) A B (ix2 r c) = ∑ k : Fin 6912, A (ix2 r k) * B (ix2 k c) := by
  refine (Ideal.matmul_plain_apply (φ₁ := .bf16) (φ₂ := .bf16) none A B (constant S512x512 .f32 0x00000000#32) r c).trans ?_
  rw [constant_apply, Ideal.ofBits_zero_f32, zero_add]

end Cert.Quant
-- ==== Proof.FinalValue.lean ====
module

public import proofs.«01_k».proof.Proof.Run
public import proofs.«01_k».proof.Proof.BlockValue

@[expose] public section

/-!
# The kernel's three results as functions of its arguments, over the extended reals

`codesArr`, `scalesArr` and `yArr` are the codes, the scales and the product as functions of the whole arrays; `final3`,
`final4` and `final5` say that the run ends with them.
-/

set_option maxRecDepth 16384

noncomputable section

namespace Cert.Quant

open Idealize.ShloMosaic Idealize.ShloMosaic.ValueIdx
open Cert.KernelIdeal Cert.KernelIdeal.Gen

/-- The codes of the whole array `x`. -/
def codesArr (X : Vec Ideal S16384x6912 .bf16) : Vec Ideal S16384x6912 .fp8e4m3 := fun i =>
  gCode (groupOf (n := 16384) X (i 0) (blockOf (i 1))) (X i)
/-- The scales of the whole array `x`. -/
def scalesArr (X : Vec Ideal S16384x6912 .bf16) : Vec Ideal S16384x54 .f32 := fun i =>
  gScale (groupOf (n := 16384) X (i 0) (i 1))
/-- The column block of the whole weights that column `n` is in. -/
def wCol (n : Fin 4096) : Fin 32 := ⟨n.val / 128, by omega⟩
/-- The product of the scaled codes with the scaled weights. -/
def yArr (X : Vec Ideal S16384x6912 .bf16) (W : Vec Ideal S6912x4096 .fp8e4m3) (S : Vec Ideal S54x32 .f32) :
    Vec Ideal S16384x4096 .bf16 := fun i =>
  ∑ k : Fin 6912, (gCode (groupOf (n := 16384) X (i 0) (blockOf k)) (X (ix2 (i 0) k)) * gScale (groupOf (n := 16384) X (i 0) (blockOf k)))
    * (W (ix2 k (i 1)) * S (ix2 (wBand k) (wCol (i 1))))

end Cert.Quant

namespace Cert.KernelIdeal.Run

open Idealize.ShloMosaic Idealize.ShloMosaic.TcCoe Idealize.ShloMosaic.ValueIdx
open Idealize.ShloMosaic.Pipeline (Dat Cfg Window)
open Cert.KernelIdeal.Gen Cert.Quant

variable (m : (ℓ : Loc nD τ sig) → Buf (Elt Ideal) ℓ)

/-- The blocks' indices at point `t`. -/
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx2 : ∀ t : Fin cfg0.N, win0_2.index t (0 : Fin 2) = 0 ∧ win0_2.index t (1 : Fin 2) = t.val % 8 :=
  (by decide +kernel : ∀ t : Fin grid0.N, win0_2.index t (0 : Fin 2) = 0 ∧ win0_2.index t (1 : Fin 2) = t.val % 8)
theorem idx3 : ∀ t : Fin cfg0.N, win0_3.index t (0 : Fin 2) = t.val / 8 ∧ win0_3.index t (1 : Fin 2) = t.val % 8 :=
  (by decide +kernel : ∀ t : Fin grid0.N, win0_3.index t (0 : Fin 2) = t.val / 8 ∧ win0_3.index t (1 : Fin 2) = t.val % 8)
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- There are 256 points. -/
theorem point_lt (t : Fin cfg0.N) : t.val < 256 := Nat.lt_of_lt_of_eq t.isLt N_0

/-- Row `r` of the row block of point `t`. -/
def rowAt (t : Fin cfg0.N) (r : Fin 512) : Fin 16384 := ⟨512 * (t.val / 8) + r.val, by have := point_lt t; omega⟩
/-- Column `c` of the column block of point `t`. -/
def lineAt (t : Fin cfg0.N) (c : Fin 512) : Fin 4096 := ⟨512 * (t.val % 8) + c.val, by omega⟩

/-- The array `x` as the region finds it, with 16384 rows. -/
abbrev xArr (c : Dev nD) : Vec Ideal S16384x6912 .bf16 := V m c main_v0
/-- The weights. -/
abbrev wArr (c : Dev nD) : Vec Ideal S6912x4096 .fp8e4m3 := V m c main_arg1
/-- The weights' scales. -/
abbrev sArr (c : Dev nD) : Vec Ideal S54x32 .f32 := V m c main_arg2

/-- The block of `x` at point `t`, read at an index. -/
theorem xBlk_apply (c : Dev nD) (t : Fin cfg0.N) (r : Fin 512) (k : Fin 6912) :
    xBlk m c t (ix2 r k) = xArr m c (ix2 (rowAt t r) k) := by
  obtain ⟨e0, e1⟩ := idx1 t
  show V m c main_v0 (((cfg0.win 1).blk t).view.emb (ix2 r k)) = V m c main_v0 _
  refine congrArg (V m c main_v0) (funext fun a => Fin.ext ?_)
  match a with
  | ⟨0, _⟩ => show win0_1.index t (0 : Fin 2) * 512 + 1 * r.val = 512 * (t.val / 8) + r.val; omega
  | ⟨1, _⟩ => show win0_1.index t (1 : Fin 2) * 6912 + 1 * k.val = k.val; omega

/-- The block of weights at point `t`, read at an index. -/
theorem wBlk_apply (c : Dev nD) (t : Fin cfg0.N) (k : Fin 6912) (n : Fin 512) :
    wBlk m c t (ix2 k n) = wArr m c (ix2 k (lineAt t n)) := by
  obtain ⟨e0, e1⟩ := idx2 t
  show V m c main_arg1 (((cfg0.win 2).blk t).view.emb (ix2 k n)) = V m c main_arg1 _
  refine congrArg (V m c main_arg1) (funext fun a => Fin.ext ?_)
  match a with
  | ⟨0, _⟩ => show win0_2.index t (0 : Fin 2) * 6912 + 1 * k.val = k.val; omega
  | ⟨1, _⟩ => show win0_2.index t (1 : Fin 2) * 512 + 1 * n.val = 512 * (t.val % 8) + n.val; omega

/-- The scales of the weights at point `t` are the whole array. -/
theorem sBlk_apply (c : Dev nD) (t : Fin cfg0.N) (j : S54x32.Idx) : sBlk m c t j = sArr m c j := by
  obtain ⟨e0, e1⟩ := idx0 t
  show V m c main_arg2 (((cfg0.win 0).blk t).view.emb j) = V m c main_arg2 j
  refine congrArg (V m c main_arg2) (funext fun a => Fin.ext ?_)
  match a with
  | ⟨0, _⟩ => show win0_0.index t (0 : Fin 2) * 54 + 1 * (j 0).val = (j 0).val; omega
  | ⟨1, _⟩ => show win0_0.index t (1 : Fin 2) * 32 + 1 * (j 1).val = (j 1).val; omega

/-- A group of the block of `x` at point `t`. -/
theorem group_blk (c : Dev nD) (t : Fin cfg0.N) (r : Fin 512) (b : Fin 54) :
    groupOf (n := 512) (xBlk m c t) r b = groupOf (n := 16384) (xArr m c) (rowAt t r) b := by
  funext k
  exact xBlk_apply m c t r (colAt b k)

/-- The codes of the row block of point `t`. -/
theorem codes_blk (c : Dev nD) (t : Fin cfg0.N) (r : Fin 512) (k : Fin 6912) :
    codesOf (xBlk m c t) (ix2 r k) = codesArr (xArr m c) (ix2 (rowAt t r) k) := by
  rw [codesOf_apply, group_blk, xBlk_apply]
  rfl

/-- The scales of the row block of point `t`. -/
theorem scales_blk (c : Dev nD) (t : Fin cfg0.N) (r : Fin 512) (b : Fin 54) :
    scalesOf (xBlk m c t) (ix2 r b) = scalesArr (xArr m c) (ix2 (rowAt t r) b) := by
  rw [scalesOf_apply, group_blk]
  rfl

/-- The output block of point `t`. -/
theorem y_blk (c : Dev nD) (t : Fin cfg0.N) (r n : Fin 512) :
    yBlk m c t (ix2 r n) = yArr (xArr m c) (wArr m c) (sArr m c) (ix2 (rowAt t r) (lineAt t n)) := by
  unfold yBlk
  rw [prod_apply]
  show _ = ∑ k : Fin 6912, (gCode (groupOf (n := 16384) (xArr m c) (rowAt t r) (blockOf k)) (xArr m c (ix2 (rowAt t r) k))
    * gScale (groupOf (n := 16384) (xArr m c) (rowAt t r) (blockOf k)))
    * (wArr m c (ix2 k (lineAt t n)) * sArr m c (ix2 (wBand k) (wCol (lineAt t n))))
  refine Finset.sum_congr rfl fun k _ => ?_
  have e : wsAt (grid0.coords t 1) (wBand k) (wBlock n) = ix2 (wBand k) (wCol (lineAt t n)) := by
    funext a
    apply Fin.ext
    match a with
    | ⟨0, _⟩ => rfl
    | ⟨1, _⟩ =>
      show 4 * (grid0.coords t 1).val + n.val / 128 = (512 * (t.val % 8) + n.val) / 128
      have := coord1 t; omega
  refine congrArg₂ (fun a b : EReal => a * b) ?_ ?_
  · rw [xaOf_apply, group_blk, xBlk_apply]
  · exact (waOf_apply (sBlk m c t) (wBlk m c t) (grid0.coords t 1) k n).trans
      (congrArg₂ (fun a b : EReal => a * b) (wBlk_apply m c t k n) ((sBlk_apply m c t _).trans (congrArg (sArr m c) e)))

/-- The product after the run. -/
theorem final3 (c : Dev nD) : (dats m 0 c).arrAt 3 cfg0.N = yArr (xArr m c) (wArr m c) (sArr m c) := by
  refine (dats m 0 c).arrAt_eq_of_covers 3 (yArr (xArr m c) (wArr m c) (sArr m c)) (by decide +kernel) fun t hf y => ?_
  obtain ⟨e0, e1⟩ := idx3 t
  rw [after0_3]
  have ee : ((cfg0.win 3).blk t).view.emb y = ix2 (rowAt t (y 0)) (lineAt t (y 1)) := by
    funext a
    apply Fin.ext
    match a with
    | ⟨0, _⟩ => show win0_3.index t (0 : Fin 2) * 512 + 1 * (y 0).val = 512 * (t.val / 8) + (y 0).val; omega
    | ⟨1, _⟩ => show win0_3.index t (1 : Fin 2) * 512 + 1 * (y 1).val = 512 * (t.val % 8) + (y 1).val; omega
  have key : ∀ f : Vec Ideal S512x512 .bf16,
      _root_.cast (congrArg (Elt Ideal) ((cfg0.win 3).blk t).view.elt_eq.symm) (f ((cfg0.win 3).xinj (cfg0.grid.coords t) y)) = f (ix2 (y 0) (y 1)) :=
    fun f => congrArg f (eq_ix2 (n0 := 512) (n1 := 512) _)
  rw [ee]
  exact (key (yBlk m c t)).trans (y_blk m c t (y 0) (y 1))

/-- The codes after the run. -/
theorem final4 (c : Dev nD) : (dats m 0 c).arrAt 4 cfg0.N = codesArr (xArr m c) := by
  refine (dats m 0 c).arrAt_eq_of_covers 4 (codesArr (xArr m c)) (by decide +kernel) fun t hf y => ?_
  obtain ⟨e0, e1⟩ := idx4 t
  rw [after0_4]
  have ee : ((cfg0.win 4).blk t).view.emb y = ix2 (rowAt t (y 0)) (y 1) := by
    funext a
    apply Fin.ext
    match a with
    | ⟨0, _⟩ => show win0_4.index t (0 : Fin 2) * 512 + 1 * (y 0).val = 512 * (t.val / 8) + (y 0).val; omega
    | ⟨1, _⟩ => show win0_4.index t (1 : Fin 2) * 6912 + 1 * (y 1).val = (y 1).val; omega
  have key : ∀ f : Vec Ideal S512x6912 .fp8e4m3,
      _root_.cast (congrArg (Elt Ideal) ((cfg0.win 4).blk t).view.elt_eq.symm) (f ((cfg0.win 4).xinj (cfg0.grid.coords t) y)) = f (ix2 (y 0) (y 1)) :=
    fun f => congrArg f (eq_ix2 (n0 := 512) (n1 := 6912) _)
  rw [ee]
  exact (key (codesOf (xBlk m c t))).trans (codes_blk m c t (y 0) (y 1))

/-- The scales after the run. -/
theorem final5 (c : Dev nD) : (dats m 0 c).arrAt 5 cfg0.N = scalesArr (xArr m c) := by
  refine (dats m 0 c).arrAt_eq_of_covers 5 (scalesArr (xArr m c)) (by decide +kernel) fun t hf y => ?_
  obtain ⟨e0, e1⟩ := idx5 t
  rw [after0_5]
  have ee : ((cfg0.win 5).blk t).view.emb y = ix2 (rowAt t (y 0)) (y 1) := by
    funext a
    apply Fin.ext
    match a with
    | ⟨0, _⟩ => show win0_5.index t (0 : Fin 2) * 512 + 1 * (y 0).val = 512 * (t.val / 8) + (y 0).val; omega
    | ⟨1, _⟩ => show win0_5.index t (1 : Fin 2) * 54 + 1 * (y 1).val = (y 1).val; omega
  have key : ∀ f : Vec Ideal S512x54 .f32,
      _root_.cast (congrArg (Elt Ideal) ((cfg0.win 5).blk t).view.elt_eq.symm) (f ((cfg0.win 5).xinj (cfg0.grid.coords t) y)) = f (ix2 (y 0) (y 1)) :=
    fun f => congrArg f (eq_ix2 (n0 := 512) (n1 := 54) _)
  rw [ee]
  exact (key (scalesOf (xBlk m c t))).trans (scales_blk m c t (y 0) (y 1))

end Cert.KernelIdeal.Run

end
-- ==== Proof.RefValue.lean ====
module

public import proofs.«01_k».proof.Proof.FinalValue
public import proofs.«01_k».proof.Proof.Gen.ReferenceIdeal.Frame

@[expose] public section

/-!
# The reference's three results as functions of its arguments, over the extended reals

Each of the reference's operations read at an index. Where every group of `x` is in range (`InRange`), the reference's
scales, codes and product are the kernel's: `refScales_eq`, `refCodes_eq`, `refY_eq`.
-/

set_option maxRecDepth 16384

noncomputable section

namespace Cert.Ref

open Idealize.ShloMosaic Idealize.ShloMosaic.ValueIdx
open Cert.ReferenceIdeal Cert.ReferenceIdeal.Gen Cert.Quant

attribute [local irreducible] multiReduction shapeCast broadcastTo

/-- Two arrays of rank two that agree at every place are equal. -/
theorem ext2 {n0 n1 : ℕ} {α : Type} (f g : (⟨2, ![n0, n1]⟩ : Shape).Idx → α) (h : ∀ r c, f (ix2 r c) = g (ix2 r c)) : f = g :=
  funext fun i => (congrArg f (eq_ix2 i)).trans ((h (i 0) (i 1)).trans (congrArg g (eq_ix2 i)).symm)

/-- A place inside a column block. -/
def laneOf (c : Fin 6912) : Fin 128 := ⟨c.val % 128, Nat.mod_lt _ (by decide)⟩

/-- A row of 6912 is the column `laneOf c` of block `blockOf c`. -/
theorem colAt_block (c : Fin 6912) : colAt (blockOf c) (laneOf c) = c := by
  apply Fin.ext
  show 128 * (c.val / 128) + c.val % 128 = c.val
  omega

/-- An array of rows of 6912, regrouped by 128, at an index. -/
theorem split_apply {α : Type} (x : S16384x6912.Idx → α) (h : S16384x6912.ShapeCasts S16384x54x128) (r : Fin 16384) (b : Fin 54) (l : Fin 128) :
    shapeCast S16384x54x128 x h (ix3 r b l) = x (ix2 r (colAt b l)) := by
  refine shapeCast_apply x h _ _ ?_
  rw [Shape.rowMajor_val_two, Shape.rowMajor_val_three]
  show r.val * 6912 + (128 * b.val + l.val) = (r.val * 54 + b.val) * 128 + l.val
  omega

/-- And back. -/
theorem join_apply {α : Type} (x : S16384x54x128.Idx → α) (h : S16384x54x128.ShapeCasts S16384x6912) (r : Fin 16384) (c : Fin 6912) :
    shapeCast S16384x6912 x h (ix2 r c) = x (ix3 r (blockOf c) (laneOf c)) := by
  refine shapeCast_apply x h _ _ ?_
  rw [Shape.rowMajor_val_two, Shape.rowMajor_val_three]
  show (r.val * 54 + c.val / 128) * 128 + c.val % 128 = r.val * 6912 + c.val
  omega

/-- A column added behind, at an index. -/
theorem unit_apply {α : Type} (x : S16384x54.Idx → α) (h : S16384x54.ShapeCasts S16384x54x1) (r : Fin 16384) (b : Fin 54) :
    shapeCast S16384x54x1 x h (ix3 r b 0) = x (ix2 r b) := by
  refine shapeCast_apply x h _ _ ?_
  rw [Shape.rowMajor_val_two, Shape.rowMajor_val_three]
  show r.val * 54 + b.val = (r.val * 54 + b.val) * 1 + 0
  omega

/-- A group's value spread over its lanes, at an index. -/
theorem spread_apply {α : Type} (x : S16384x54x1.Idx → α) (h : S16384x54x1.Broadcasts S16384x54x128) (r : Fin 16384) (b : Fin 54) (l : Fin 128) :
    broadcastTo S16384x54x128 x h (ix3 r b l) = x (ix3 r b 0) := by
  refine broadcastTo_apply x h _ _ ?_
  intro a
  fin_cases a <;> rfl

/-- The values regrouped by 128, at an index. -/
theorem pay2_apply (X : Vec Ideal S16384x6912 .bf16) (r : Fin 16384) (b : Fin 54) (l : Fin 128) :
    k0_pay2 X (ix3 r b l) = X (ix2 r (colAt b l)) := by
  unfold k0_pay2
  rw [split_apply, extf_apply, shapeCast_self]

/-- A maximum over the lanes of absolute values. -/
theorem max_apply (v : FVec Ideal S16384x54x128 .f32) (hφ : FKind.Formats .f32) (hacc : 0xFF800000#32 = FKind.maximumf.neutral .f32 hφ)
    (r : Fin 16384) (b : Fin 54) :
    multiReduction (F := Ideal) (φ := .f32) .maximumf [2] S16384x54 (absf v) 0xFF800000#32 reduces_S16384x54x128_S16384x54 hφ hacc (ix2 r b)
      = amax fun l => v (ix3 r b l) := by
  rw [Ideal.multiReduction_maximumf_single]
  show Finset.fold max (Ideal.ofBits .f32 0xFF800000#32) _ _ = _
  rw [ofBits_f32_neg_inf]
  unfold amax
  refine Finset.fold_congr fun k _ => ?_
  have e : reduces_S16384x54x128_S16384x54.lift (ix2 r b) k = ix3 r b k := by
    rw [eq_ix3 (reduces_S16384x54x128_S16384x54.lift (ix2 r b) k)]; rfl
  show max (v _) (-(v _)) = max (v _) (-(v _))
  rw [e]
  rfl

/-- The groups' greatest absolute values, as the reference builds them. -/
def gMax (X : Vec Ideal S16384x6912 .bf16) : FVec Ideal S16384x54 .f32 :=
  multiReduction (F := Ideal) (φ := .f32) .maximumf [2] S16384x54 (absf (k0_pay2 X)) 0xFF800000#32 reduces_S16384x54x128_S16384x54 (.inl rfl) rfl

/-- One of them. -/
theorem gMax_apply (X : Vec Ideal S16384x6912 .bf16) (r : Fin 16384) (b : Fin 54) :
    gMax X (ix2 r b) = amax (groupOf (n := 16384) X r b) := by
  refine (max_apply (k0_pay2 X) (.inl rfl) rfl r b).trans (congrArg amax (funext fun l => ?_))
  exact pay2_apply X r b l

/-- The exponents, from the groups' greatest absolute values. -/
def expOf (a : FVec Ideal S16384x54 .f32) : FVec Ideal S16384x54 .f32 :=
  select (cmpf .oeq a (broadcast S16384x54 (Scalar.ofBits (F := Ideal) .f32 0x00000000#32)))
    (broadcast S16384x54 (Scalar.ofBits (F := Ideal) .f32 0x00000000#32))
    (addf (floor (divf (log (mulf a (broadcast S16384x54 (Scalar.ofBits (F := Ideal) .f32 0x3B124925#32))))
      (broadcast S16384x54 (Scalar.log (Scalar.ofBits (F := Ideal) .f32 0x40000000#32)))))
      (broadcast S16384x54 (Scalar.ofBits (F := Ideal) .f32 0x3F800000#32)))

/-- One of them. -/
theorem expOf_apply (a : FVec Ideal S16384x54 .f32) (i : S16384x54.Idx) :
    expOf a i = expR (a i) (a i * Ideal.ofBits .f32 0x3B124925#32) := by
  have e : expOf a i = Scalar.select (Ideal.cmp .oeq (a i) (Ideal.ofBits .f32 0x00000000#32)) (Ideal.ofBits .f32 0x00000000#32)
      (FloatOps.floor (F := Ideal) (φ := .f32) (Ideal.div (Ideal.log (a i * Ideal.ofBits .f32 0x3B124925#32)) (Ideal.log (Ideal.ofBits .f32 0x40000000#32)))
        + Ideal.ofBits .f32 0x3F800000#32) := rfl
  rw [e]
  unfold expR
  rw [Ideal.ofBits_zero_f32]
  by_cases hz : a i = 0
  · rw [if_pos hz]
    simp [Ideal.cmp, Scalar.select, hz]
  · rw [if_neg hz]
    simp [Ideal.cmp, Scalar.select, hz]

/-- The reference's exponents, by the pieces above. -/
theorem pay3_eq (X : Vec Ideal S16384x6912 .bf16) : k0_pay3 X = expOf (gMax X) := by
  unfold expOf gMax; rfl

/-- The exponent of a group. -/
theorem pay3_apply (X : Vec Ideal S16384x6912 .bf16) (r : Fin 16384) (b : Fin 54) :
    k0_pay3 X (ix2 r b) = expR (amax (groupOf (n := 16384) X r b)) (tOf (groupOf (n := 16384) X r b)) := by
  rw [pay3_eq, expOf_apply, gMax_apply]
  rfl

variable (X : Vec Ideal S16384x6912 .bf16)
  (H : ∀ (r : Fin 16384) (b : Fin 54), InRange (amax (groupOf (n := 16384) X r b)) (tOf (groupOf (n := 16384) X r b)))

/-- A group of zeros has `t` zero. -/
theorem tOf_zero (g : Fin 128 → EReal) (h : amax g = 0) : tOf g = 0 := by
  unfold tOf; rw [h, zero_mul]

/-- Two to a power, at an index. -/
theorem exp2_apply (v : FVec Ideal S16384x54 .f32) (i : S16384x54.Idx) : exp2 v i = Ideal.exp2 (v i) := rfl

include H in
/-- The reference's scale of a group is the kernel's. -/
theorem pay4_apply (r : Fin 16384) (b : Fin 54) : k0_pay4 X (ix2 r b) = gScale (groupOf (n := 16384) X r b) := by
  have h := scaleK_eq (amax (groupOf (n := 16384) X r b)) (tOf (groupOf (n := 16384) X r b)) (tOf_zero (groupOf (n := 16384) X r b)) (H r b)
  unfold k0_pay4 gScale
  rw [exp2_apply, pay3_apply]
  exact h.symm

/-- The reference's inverse scales. -/
def inv : FVec Ideal S16384x54 .f32 := exp2 (subf (broadcast S16384x54 (Scalar.ofBits (F := Ideal) .f32 0x00000000#32)) (k0_pay3 X))

include H in
/-- The reference's inverse scale of a group is the kernel's. -/
theorem inv_apply (r : Fin 16384) (b : Fin 54) : inv X (ix2 r b) = invK (tOf (groupOf (n := 16384) X r b)) := by
  have h := invK_eq (amax (groupOf (n := 16384) X r b)) (tOf (groupOf (n := 16384) X r b)) (tOf_zero (groupOf (n := 16384) X r b)) (H r b)
  unfold inv
  rw [exp2_apply, subf_apply, pay3_apply, broadcast_apply]
  exact h.symm

/-- The reference's codes, by the pieces above. -/
theorem pay5_eq : k0_pay5 X = truncf .fp8e4m3 (minimumf (broadcast S16384x54x128 (Scalar.ofBits (F := Ideal) .f32 0x43E00000#32))
    (maximumf (broadcast S16384x54x128 (Scalar.ofBits (F := Ideal) .f32 0xC3E00000#32))
      (mulf (k0_pay2 X) (broadcastTo S16384x54x128 (shapeCast S16384x54x1 (inv X) shapeCasts_S16384x54_S16384x54x1) broadcasts_S16384x54x1_S16384x54x128))))
    bitsLt_fp8e4m3_f32 := by
  unfold k0_pay5 inv; rfl

include H in
/-- A code of the reference is the kernel's. -/
theorem pay5_apply (r : Fin 16384) (b : Fin 54) (l : Fin 128) :
    k0_pay5 X (ix3 r b l) = gCode (groupOf (n := 16384) X r b) (X (ix2 r (colAt b l))) := by
  rw [pay5_eq, truncf_apply, minimumf_apply, maximumf_apply, mulf_apply, spread_apply, unit_apply, inv_apply X H, pay2_apply,
    broadcast_apply, broadcast_apply]
  rfl

include H in
/-- The reference's codes are the kernel's. -/
theorem refCodes_eq : k0_pay6 X = codesArr X := by
  refine ext2 (n0 := 16384) (n1 := 6912) _ _ fun r c => ?_
  unfold k0_pay6
  rw [join_apply, pay5_apply X H, colAt_block]
  rfl

include H in
/-- The reference's scales are the kernel's. -/
theorem refScales_eq : k0_pay4 X = scalesArr X := by
  refine ext2 (n0 := 16384) (n1 := 54) _ _ fun r b => ?_
  rw [pay4_apply X H]
  rfl

include H in
/-- The reference's scaled codes, at an index. -/
theorem pay7_apply (r : Fin 16384) (c : Fin 6912) :
    k0_pay7 X (ix2 r c) = gCode (groupOf (n := 16384) X r (blockOf c)) (X (ix2 r c)) * gScale (groupOf (n := 16384) X r (blockOf c)) := by
  unfold k0_pay7
  rw [join_apply, mulf_apply, extf_apply, pay5_apply X H, colAt_block, spread_apply, unit_apply, truncf_apply, pay4_apply X H]

/-- The weights regrouped by 128 both ways, at an index, and back. -/
theorem wsplit_apply {α : Type} (x : S6912x4096.Idx → α) (h : S6912x4096.ShapeCasts S54x128x32x128) (k : Fin 6912) (n : Fin 4096) :
    shapeCast S54x128x32x128 x h (ix4 (wBand k) (laneOf k) (wCol n) ⟨n.val % 128, Nat.mod_lt _ (by decide)⟩) = x (ix2 k n) := by
  refine shapeCast_apply x h _ _ ?_
  rw [Shape.rowMajor_val_two, Shape.rowMajor_val_four]
  show k.val * 4096 + n.val = ((k.val / 128 * 128 + k.val % 128) * 32 + n.val / 128) * 128 + n.val % 128
  omega

theorem wjoin_apply {α : Type} (x : S54x128x32x128.Idx → α) (h : S54x128x32x128.ShapeCasts S6912x4096) (k : Fin 6912) (n : Fin 4096) :
    shapeCast S6912x4096 x h (ix2 k n) = x (ix4 (wBand k) (laneOf k) (wCol n) ⟨n.val % 128, Nat.mod_lt _ (by decide)⟩) := by
  refine shapeCast_apply x h _ _ ?_
  rw [Shape.rowMajor_val_two, Shape.rowMajor_val_four]
  show ((k.val / 128 * 128 + k.val % 128) * 32 + n.val / 128) * 128 + n.val % 128 = k.val * 4096 + n.val
  omega

/-- The weights' scales with unit axes, at an index. -/
theorem wunit_apply {α : Type} (x : S54x32.Idx → α) (h : S54x32.ShapeCasts S54x1x32x1) (a : Fin 54) (b : Fin 32) :
    shapeCast S54x1x32x1 x h (ix4 a 0 b 0) = x (ix2 a b) := by
  refine shapeCast_apply x h _ _ ?_
  rw [Shape.rowMajor_val_two, Shape.rowMajor_val_four]
  show a.val * 32 + b.val = ((a.val * 1 + 0) * 32 + b.val) * 1 + 0
  omega

/-- A scale spread over its tile, at an index. -/
theorem wspread_apply {α : Type} (x : S54x1x32x1.Idx → α) (h : S54x1x32x1.Broadcasts S54x128x32x128) (a : Fin 54) (p : Fin 128) (b : Fin 32)
    (q : Fin 128) : broadcastTo S54x128x32x128 x h (ix4 a p b q) = x (ix4 a 0 b 0) := by
  refine broadcastTo_apply x h _ _ ?_
  intro d
  fin_cases d <;> rfl

/-- The reference's scaled weights. -/
def wScaled (W : Vec Ideal S6912x4096 .fp8e4m3) (S : Vec Ideal S54x32 .f32) : FVec Ideal S6912x4096 .bf16 :=
  shapeCast S6912x4096 (mulf (shapeCast S54x128x32x128 (extf (F := Ideal) (φ := .fp8e4m3) .bf16 W bitsLt_fp8e4m3_bf16) shapeCasts_S6912x4096_S54x128x32x128)
    (broadcastTo S54x128x32x128 (shapeCast S54x1x32x1 (truncf (F := Ideal) (φ := .f32) .bf16 S bitsLt_bf16_f32) shapeCasts_S54x32_S54x1x32x1)
      broadcasts_S54x1x32x1_S54x128x32x128)) shapeCasts_S54x128x32x128_S6912x4096

/-- One of them. -/
theorem wScaled_apply (W : Vec Ideal S6912x4096 .fp8e4m3) (S : Vec Ideal S54x32 .f32) (k : Fin 6912) (n : Fin 4096) :
    wScaled W S (ix2 k n) = W (ix2 k n) * S (ix2 (wBand k) (wCol n)) := by
  unfold wScaled
  rw [wjoin_apply, mulf_apply, wsplit_apply, extf_apply, wspread_apply, wunit_apply, truncf_apply]

/-- The reference's product, at an index. -/
theorem pay1_apply (A : FVec Ideal S16384x6912 .bf16) (W : Vec Ideal S6912x4096 .fp8e4m3) (S : Vec Ideal S54x32 .f32) (r : Fin 16384) (n : Fin 4096) :
    k0_pay1 A W S (ix2 r n) = ∑ k : Fin 6912, A (ix2 r k) * wScaled W S (ix2 k n) := by
  refine (Ideal.matmul_plain_apply (φ₁ := .bf16) (φ₂ := .bf16) none A (wScaled W S) (constant S16384x4096 .f32 0x00000000#32) r n).trans ?_
  rw [constant_apply, Ideal.ofBits_zero_f32, zero_add]

include H in
/-- The reference's product is the kernel's. -/
theorem refY_eq (W : Vec Ideal S6912x4096 .fp8e4m3) (S : Vec Ideal S54x32 .f32) : k0_pay1 (k0_pay7 X) W S = yArr X W S := by
  refine ext2 (n0 := 16384) (n1 := 4096) _ _ fun r n => ?_
  rw [pay1_apply]
  refine Finset.sum_congr rfl fun k _ => ?_
  rw [pay7_apply X H, wScaled_apply]

end Cert.Ref

end
-- ==== Proof.RefRun.lean ====
module

public import proofs.«01_k».proof.Proof.RefValue

@[expose] public section

/-!
# The reference's run, its three results named

The reference is one point whose blocks are the whole arrays, so its results are its payloads of its arguments.
-/

set_option maxRecDepth 16384

noncomputable section

namespace Cert.ReferenceIdeal.Run

open Idealize.ShloMosaic Idealize.ShloMosaic.TcCoe
open Idealize.ShloMosaic.Pipeline (Dat Cfg Window)
open Idealize.SL.Sem
open Cert.ReferenceIdeal.Gen

variable (m : (ℓ : Loc nD τ sig) → Buf (Elt Ideal) ℓ) (ρ : Dev nD → PrngReg)

/-- An offset of zeros. -/
theorem hz : (![0, 0] : Fin 2 → ℕ) = fun _ => 0 := by funext a; fin_cases a <;> rfl

/-- An index of a window's block is the same index of its array. -/
theorem emb0 (t : Fin cfg0.N) (j : S16384x6912.Idx) : ((cfg0.win 0).blk t).view.emb j = j := by
  funext a; apply Fin.ext
  match a with
  | ⟨0, _⟩ => show 0 * 16384 + 1 * (j 0).val = (j 0).val; omega
  | ⟨1, _⟩ => show 0 * 6912 + 1 * (j 1).val = (j 1).val; omega
theorem emb1 (t : Fin cfg0.N) (j : S6912x4096.Idx) : ((cfg0.win 1).blk t).view.emb j = j := by
  funext a; apply Fin.ext
  match a with
  | ⟨0, _⟩ => show 0 * 6912 + 1 * (j 0).val = (j 0).val; omega
  | ⟨1, _⟩ => show 0 * 4096 + 1 * (j 1).val = (j 1).val; omega
theorem emb2 (t : Fin cfg0.N) (j : S54x32.Idx) : ((cfg0.win 2).blk t).view.emb j = j := by
  funext a; apply Fin.ext
  match a with
  | ⟨0, _⟩ => show 0 * 54 + 1 * (j 0).val = (j 0).val; omega
  | ⟨1, _⟩ => show 0 * 32 + 1 * (j 1).val = (j 1).val; omega
theorem emb3 (t : Fin cfg0.N) (j : S16384x4096.Idx) : ((cfg0.win 3).blk t).view.emb j = j := by
  funext a; apply Fin.ext
  match a with
  | ⟨0, _⟩ => show 0 * 16384 + 1 * (j 0).val = (j 0).val; omega
  | ⟨1, _⟩ => show 0 * 4096 + 1 * (j 1).val = (j 1).val; omega
theorem emb4 (t : Fin cfg0.N) (j : S16384x6912.Idx) : ((cfg0.win 4).blk t).view.emb j = j := by
  funext a; apply Fin.ext
  match a with
  | ⟨0, _⟩ => show 0 * 16384 + 1 * (j 0).val = (j 0).val; omega
  | ⟨1, _⟩ => show 0 * 6912 + 1 * (j 1).val = (j 1).val; omega
theorem emb5 (t : Fin cfg0.N) (j : S16384x54.Idx) : ((cfg0.win 5).blk t).view.emb j = j := by
  funext a; apply Fin.ext
  match a with
  | ⟨0, _⟩ => show 0 * 16384 + 1 * (j 0).val = (j 0).val; omega
  | ⟨1, _⟩ => show 0 * 54 + 1 * (j 1).val = (j 1).val; omega

/-- So an input window's block is its array as the region finds it. -/
theorem iblk0_eq (c : Dev nD) (t : Fin cfg0.N) : iblk m c 0 t = V m c main_v0 := by
  funext j; show V m c main_v0 (((cfg0.win 0).blk t).view.emb j) = V m c main_v0 j; rw [emb0]
theorem iblk1_eq (c : Dev nD) (t : Fin cfg0.N) : iblk m c 1 t = V m c main_arg1 := by
  funext j; show V m c main_arg1 (((cfg0.win 1).blk t).view.emb j) = V m c main_arg1 j; rw [emb1]
theorem iblk2_eq (c : Dev nD) (t : Fin cfg0.N) : iblk m c 2 t = V m c main_arg2 := by
  funext j; show V m c main_arg2 (((cfg0.win 2).blk t).view.emb j) = V m c main_arg2 j; rw [emb2]

/-- What the body leaves in the outputs' buffers. -/
theorem out3_eq (X : Vec Ideal S16384x6912 .bf16) (W : Vec Ideal S6912x4096 .fp8e4m3) (S : Vec Ideal S54x32 .f32) :
    out0_3 X W S = k0_pay1 (k0_pay7 X) W S := by
  unfold out0_3
  rw [View.canon_unit_zero hz, View.ld_unit_zero hz, View.ld_unit_zero hz, View.ld_unit_zero hz]
theorem out4_eq (X : Vec Ideal S16384x6912 .bf16) (W : Vec Ideal S6912x4096 .fp8e4m3) (S : Vec Ideal S54x32 .f32) :
    out0_4 X W S = k0_pay6 X := by
  unfold out0_4
  rw [View.canon_unit_zero hz, View.ld_unit_zero hz]
theorem out5_eq (X : Vec Ideal S16384x6912 .bf16) (W : Vec Ideal S6912x4096 .fp8e4m3) (S : Vec Ideal S54x32 .f32) :
    out0_5 X W S = k0_pay4 X := by
  unfold out0_5
  rw [View.canon_unit_zero hz, View.ld_unit_zero hz]

/-- The results after the run. -/
theorem final3 (c : Dev nD) : (dats m 0 c).arrAt 3 cfg0.N = k0_pay1 (k0_pay7 (V m c main_v0)) (V m c main_arg1) (V m c main_arg2) := by
  refine (dats m 0 c).arrAt_eq_of_covers 3 (k0_pay1 (k0_pay7 (V m c main_v0)) (V m c main_arg1) (V m c main_arg2)) (by decide +kernel) fun t hf y => ?_
  have key : ∀ f : Vec Ideal S16384x4096 .bf16,
      _root_.cast (congrArg (Elt Ideal) ((cfg0.win 3).blk t).view.elt_eq.symm) (f ((cfg0.win 3).xinj (cfg0.grid.coords t) y))
        = f (((cfg0.win 3).blk t).view.emb y) := fun f => congrArg f (emb3 t y).symm
  rw [after0_3, iblk0_eq, iblk1_eq, iblk2_eq]
  exact (key _).trans (congrFun (out3_eq (V m c main_v0) (V m c main_arg1) (V m c main_arg2)) _)
theorem final4 (c : Dev nD) : (dats m 0 c).arrAt 4 cfg0.N = k0_pay6 (V m c main_v0) := by
  refine (dats m 0 c).arrAt_eq_of_covers 4 (k0_pay6 (V m c main_v0)) (by decide +kernel) fun t hf y => ?_
  have key : ∀ f : Vec Ideal S16384x6912 .fp8e4m3,
      _root_.cast (congrArg (Elt Ideal) ((cfg0.win 4).blk t).view.elt_eq.symm) (f ((cfg0.win 4).xinj (cfg0.grid.coords t) y))
        = f (((cfg0.win 4).blk t).view.emb y) := fun f => congrArg f (emb4 t y).symm
  rw [after0_4, iblk0_eq, iblk1_eq, iblk2_eq]
  exact (key _).trans (congrFun (out4_eq (V m c main_v0) (V m c main_arg1) (V m c main_arg2)) _)
theorem final5 (c : Dev nD) : (dats m 0 c).arrAt 5 cfg0.N = k0_pay4 (V m c main_v0) := by
  refine (dats m 0 c).arrAt_eq_of_covers 5 (k0_pay4 (V m c main_v0)) (by decide +kernel) fun t hf y => ?_
  have key : ∀ f : Vec Ideal S16384x54 .f32,
      _root_.cast (congrArg (Elt Ideal) ((cfg0.win 5).blk t).view.elt_eq.symm) (f ((cfg0.win 5).xinj (cfg0.grid.coords t) y))
        = f (((cfg0.win 5).blk t).view.emb y) := fun f => congrArg f (emb5 t y).symm
  rw [after0_5, iblk0_eq, iblk1_eq, iblk2_eq]
  exact (key _).trans (congrFun (out5_eq (V m c main_v0) (V m c main_arg1) (V m c main_arg2)) _)

/-- The run with its results at their blocks. -/
theorem run_results : θ_run defs (onTc (τ := τ) (main (F := Ideal))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_v1_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, (h.1 c).1 4, (h.1 c).1 5, h.2 c⟩)
    (θ_run_and (run_main m ρ) (unchanged m ρ))

end Cert.ReferenceIdeal.Run

end
-- ==== Proof.PreValue.lean ====
module

public import proofs.«01_k».proof.Proof.RefValue
public import proofs.«01_k».proof.Proof.Gen.Pre_in_range

@[expose] public section

/-!
# The precondition, over the extended reals

The predicate of the inputs computes each group's greatest absolute value and `t` from the array of rank three; read at an
index it says that the group is in range.
-/

set_option maxRecDepth 16384

noncomputable section

namespace Cert.Ref

open Idealize.ShloMosaic Idealize.ShloMosaic.ValueIdx
open Cert.Pre_in_range Cert.Pre_in_range.Gen Cert.Quant

attribute [local irreducible] Host.reduce shapeCast

/-- The array of 8 batches of 2048 rows as an array of 16384 rows. -/
abbrev flat (A : Vec Ideal S8x2048x6912 .bf16) : Vec Ideal Cert.KernelIdeal.S16384x6912 .bf16 :=
  shapeCast Cert.KernelIdeal.S16384x6912 A Cert.KernelIdeal.Gen.shapeCasts_S8x2048x6912_S16384x6912

/-- Its batch and its row in the batch. -/
def batchOf (r : Fin 16384) : Fin 8 := ⟨r.val / 2048, by omega⟩
def seqOf (r : Fin 16384) : Fin 2048 := ⟨r.val % 2048, Nat.mod_lt _ (by decide)⟩

/-- The array of 16384 rows, at an index. -/
theorem flat_apply (A : Vec Ideal S8x2048x6912 .bf16) (r : Fin 16384) (c : Fin 6912) :
    flat A (ix2 r c) = A (ix3 (batchOf r) (seqOf r) c) := by
  refine shapeCast_apply A _ _ _ ?_
  rw [Shape.rowMajor_val_two, Shape.rowMajor_val_three]
  show (r.val / 2048 * 2048 + r.val % 2048) * 6912 + c.val = r.val * 6912 + c.val
  omega

/-- The array regrouped by 128, at an index. -/
theorem split4_apply {α : Type} (x : S8x2048x6912.Idx → α) (h : S8x2048x6912.ShapeCasts S8x2048x54x128) (p : Fin 8) (q : Fin 2048)
    (b : Fin 54) (l : Fin 128) : shapeCast S8x2048x54x128 x h (ix4 p q b l) = x (ix3 p q (colAt b l)) := by
  refine shapeCast_apply x h _ _ ?_
  rw [Shape.rowMajor_val_three, Shape.rowMajor_val_four]
  show (p.val * 2048 + q.val) * 6912 + (128 * b.val + l.val) = ((p.val * 2048 + q.val) * 54 + b.val) * 128 + l.val
  omega

/-- The absolute values, as the predicate builds them. -/
def absv (A : Vec Ideal S8x2048x6912 .bf16) : FVec Ideal S8x2048x54x128 .f32 :=
  shapeCast S8x2048x54x128 (Host.absf (extf (F := Ideal) (φ := .bf16) .f32 A bitsLt_bf16_f32)) shapeCasts_S8x2048x6912_S8x2048x54x128

/-- One of them. -/
theorem absv_apply (A : Vec Ideal S8x2048x6912 .bf16) (p : Fin 8) (q : Fin 2048) (b : Fin 54) (l : Fin 128) :
    absv A (ix4 p q b l) = max (A (ix3 p q (colAt b l)) : EReal) (-(A (ix3 p q (colAt b l)) : EReal)) := by
  unfold absv
  rw [split4_apply]
  rfl

/-- The groups' greatest absolute values, as the predicate builds them. -/
def pMax (A : Vec Ideal S8x2048x6912 .bf16) : FVec Ideal S8x2048x54 .f32 :=
  Host.reduce (FloatOps.maximumf (F := Ideal) (φ := .f32)) (absv A) (constant S_ .f32 0xFF800000#32) reducesTo_S8x2048x54x128_S8x2048x54_d3 h_S_

/-- The shape of a reduction over the last axis. -/
theorem reduces4 : S8x2048x54x128.Reduces [3] S8x2048x54 := by decide

/-- One of them. -/
theorem pMax_apply (A : Vec Ideal S8x2048x6912 .bf16) (r : Fin 16384) (b : Fin 54) :
    pMax A (ix3 (batchOf r) (seqOf r) b) = amax (groupOf (n := 16384) (flat A) r b) := by
  refine (Host.reduce_eq_fold_single (f := (max : EReal → EReal → EReal)) (absv A) (constant (F := Ideal) S_ .f32 0xFF800000#32)
    reducesTo_S8x2048x54x128_S8x2048x54_d3 reduces4 h_S_ (ix3 (batchOf r) (seqOf r) b)).trans ?_
  rw [constant_apply, ofBits_f32_neg_inf]
  unfold amax
  refine Finset.fold_congr fun k _ => ?_
  have e : reduces4.lift (ix3 (batchOf r) (seqOf r) b) k = ix4 (batchOf r) (seqOf r) b k := by
    funext a
    apply Fin.ext
    fin_cases a <;> rfl
  rw [Function.comp_apply, e]
  refine (absv_apply A (batchOf r) (seqOf r) b k).trans ?_
  have ef : groupOf (n := 16384) (flat A) r b k = A (ix3 (batchOf r) (seqOf r) (colAt b k)) := flat_apply A r (colAt b k)
  rw [ef]

/-- The predicate, at an index, from the groups' greatest absolute values. -/
def inRangeBit (a : EReal) : BitVec 1 :=
  Ideal.cmp .oeq a (Ideal.ofBits .f32 0x00000000#32)
    ||| (Ideal.cmp .oge (a * Ideal.ofBits .f32 0x3B124925#32) (Ideal.ofBits .f32 0x00800000#32)
      &&& Ideal.cmp .olt (a * Ideal.ofBits .f32 0x3B124925#32) (Ideal.ofBits .f32 0x7E800000#32))

/-- The predicate from the groups' greatest absolute values. -/
def inRangeBits (v : FVec Ideal S8x2048x54 .f32) : IVec S8x2048x54 1 :=
  ori (cmpf .oeq v (broadcastInDim S8x2048x54 ![] bcast_S_S8x2048x54 (constant (F := Ideal) S_ .f32 0x00000000#32)))
    (andi (cmpf .oge (mulf v (broadcastInDim S8x2048x54 ![] bcast_S_S8x2048x54 (constant (F := Ideal) S_ .f32 0x3B124925#32)))
        (broadcastInDim S8x2048x54 ![] bcast_S_S8x2048x54 (constant (F := Ideal) S_ .f32 0x00800000#32)))
      (cmpf .olt (mulf v (broadcastInDim S8x2048x54 ![] bcast_S_S8x2048x54 (constant (F := Ideal) S_ .f32 0x3B124925#32)))
        (broadcastInDim S8x2048x54 ![] bcast_S_S8x2048x54 (constant (F := Ideal) S_ .f32 0x7E800000#32))))

/-- The predicate is that of the groups' greatest absolute values. -/
theorem fn_eq (A : Vec Ideal S8x2048x6912 .bf16) (W : Vec Ideal S6912x4096 .fp8e4m3) (S : Vec Ideal S54x32 .f32) :
    Cert.Pre_in_range.fn (F := Ideal) A W S = inRangeBits (pMax A) := by
  unfold Cert.Pre_in_range.fn inRangeBits pMax absv
  with_reducible rfl

/-- A scalar constant broadcast, at an index. -/
theorem bcast_const (x : BitVec 32) (i : S8x2048x54.Idx) :
    broadcastInDim S8x2048x54 ![] bcast_S_S8x2048x54 (constant (F := Ideal) S_ .f32 x) i = Ideal.ofBits .f32 x := rfl

/-- The predicate, at an index. -/
theorem inRangeBits_apply (v : FVec Ideal S8x2048x54 .f32) (i : S8x2048x54.Idx) : inRangeBits v i = inRangeBit (v i) := by
  unfold inRangeBits
  show Ideal.cmp .oeq (v i) (broadcastInDim S8x2048x54 ![] bcast_S_S8x2048x54 (constant (F := Ideal) S_ .f32 0x00000000#32) i)
    ||| (Ideal.cmp .oge ((v i) * (broadcastInDim S8x2048x54 ![] bcast_S_S8x2048x54 (constant (F := Ideal) S_ .f32 0x3B124925#32) i))
        (broadcastInDim S8x2048x54 ![] bcast_S_S8x2048x54 (constant (F := Ideal) S_ .f32 0x00800000#32) i)
      &&& Ideal.cmp .olt ((v i) * (broadcastInDim S8x2048x54 ![] bcast_S_S8x2048x54 (constant (F := Ideal) S_ .f32 0x3B124925#32) i))
        (broadcastInDim S8x2048x54 ![] bcast_S_S8x2048x54 (constant (F := Ideal) S_ .f32 0x7E800000#32) i)) = _
  rw [bcast_const, bcast_const, bcast_const, bcast_const]
  unfold inRangeBit
  with_reducible rfl

/-- Where the predicate is true the group is in range. -/
theorem inRange_of_bit (a : EReal) (h : inRangeBit a = 1#1) : InRange a (a * Ideal.ofBits .f32 0x3B124925#32) := by
  unfold inRangeBit at h
  unfold InRange
  rw [Ideal.ofBits_zero_f32] at h
  generalize a * Ideal.ofBits .f32 0x3B124925#32 = t at h ⊢
  generalize Ideal.ofBits .f32 0x00800000#32 = lo at h ⊢
  generalize Ideal.ofBits .f32 0x7E800000#32 = hi at h ⊢
  by_cases h1 : a = 0
  · exact .inl h1
  refine .inr ?_
  by_cases h2 : lo ≤ t
  · by_cases h3 : t < hi
    · exact ⟨h2, h3⟩
    · exfalso; revert h; simp [Ideal.cmp, h1, h2, h3]
  · exfalso; revert h; simp [Ideal.cmp, h1, h2]

/-- Where the predicate is true every group of the array of 16384 rows is in range. -/
theorem inRange_of_fn (A : Vec Ideal S8x2048x6912 .bf16) (W : Vec Ideal S6912x4096 .fp8e4m3) (S : Vec Ideal S54x32 .f32)
    (h : Cert.Pre_in_range.fn (F := Ideal) A W S = fun _ => 1#1) (r : Fin 16384) (b : Fin 54) :
    InRange (amax (groupOf (n := 16384) (flat A) r b)) (tOf (groupOf (n := 16384) (flat A) r b)) := by
  have h1 := congrFun h (ix3 (batchOf r) (seqOf r) b)
  rw [fn_eq, inRangeBits_apply, pMax_apply] at h1
  exact inRange_of_bit _ h1

end Cert.Ref

end
-- ==== Proof.Equal.lean ====
module

public import proofs.«01_k».proof.Proof.FinalValue
public import proofs.«01_k».proof.Proof.RefRun
public import proofs.«01_k».proof.Proof.PreValue
public import proofs.«01_k».proof.Defs

@[expose] public section

/-!
# The kernel and the reference compute the same three arrays

Both flatten the batches first; where every group is in range the kernel's codes, scales and product are the reference's.
-/

set_option maxRecDepth 16384

noncomputable section

open Idealize.ShloMosaic Idealize.ShloMosaic.TcCoe Idealize.SL.Sem

namespace Cert.KernelIdeal.Run

open Cert.KernelIdeal Cert.KernelIdeal.Gen

/-- The array that the kernel's region reads is its first argument flattened. -/
theorem xArr_eq (m : (ℓ : Loc nD τ sig) → Buf (Elt Ideal) ℓ) (c : Dev nD) :
    xArr m c = Cert.Ref.flat (m ((c.tc : Thread nD τ).loc main_arg0)) := by
  unfold xArr V
  unfold hostOps0
  show (StableHlo.reshape (τ := τ) (Val := Elt Ideal) main_arg0 main_v0 rfl shapeCasts_S8x2048x6912_S16384x6912).result (fun b => m (c, b))
    (Proc.tc.devRef main_v0) = _
  exact (StableHlo.reshape_result (Val := Elt Ideal) main_arg0 main_v0 rfl shapeCasts_S8x2048x6912_S16384x6912 _ _
    (fun b => m (c, b))).trans rfl

/-- The other two arguments it reads as they are. -/
theorem wArr_eq (m : (ℓ : Loc nD τ sig) → Buf (Elt Ideal) ℓ) (c : Dev nD) :
    wArr m c = m ((c.tc : Thread nD τ).loc main_arg1) := V_main_arg1 m c
theorem sArr_eq (m : (ℓ : Loc nD τ sig) → Buf (Elt Ideal) ℓ) (c : Dev nD) :
    sArr m c = m ((c.tc : Thread nD τ).loc main_arg2) := V_main_arg2 m c

end Cert.KernelIdeal.Run

namespace Cert.ReferenceIdeal.Run

open Cert.ReferenceIdeal Cert.ReferenceIdeal.Gen

/-- The array that the reference's region reads is its first argument flattened. -/
theorem V_x (m : (ℓ : Loc nD τ sig) → Buf (Elt Ideal) ℓ) (c : Dev nD) :
    V m c main_v0 = Cert.Ref.flat (m ((c.tc : Thread nD τ).loc main_arg0)) := by
  unfold V
  unfold hostOps0
  show (StableHlo.reshape (τ := τ) (Val := Elt Ideal) main_arg0 main_v0 rfl shapeCasts_S8x2048x6912_S16384x6912).result (fun b => m (c, b))
    (Proc.tc.devRef main_v0) = _
  exact (StableHlo.reshape_result (Val := Elt Ideal) main_arg0 main_v0 rfl shapeCasts_S8x2048x6912_S16384x6912 _ _
    (fun b => m (c, b))).trans rfl

end Cert.ReferenceIdeal.Run

namespace Cert.Equal

open Cert.Quant Cert.Ref

variable (A : Vec Ideal Cert.Pre_in_range.S8x2048x6912 .bf16) (W : Vec Ideal Cert.KernelIdeal.S6912x4096 .fp8e4m3)
  (S : Vec Ideal Cert.KernelIdeal.S54x32 .f32)

/-- The three results, as functions of the arguments. -/
def yOf : Vec Ideal Cert.KernelIdeal.S16384x4096 .bf16 := yArr (flat A) W S
def codesOfArg : Vec Ideal Cert.KernelIdeal.S16384x6912 .fp8e4m3 := codesArr (flat A)
def scalesOfArg : Vec Ideal Cert.KernelIdeal.S16384x54 .f32 := scalesArr (flat A)

/-- The kernel ends with them. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v1_0)
          = yOf (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_v1_1)
          = codesOfArg (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_v1_2)
          = scalesOfArg (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2)) := by
  refine (θ_run _ _ _).mono (fun r h c => ?_) (Cert.KernelIdeal.Run.run_results m g)
  obtain ⟨h0, h1, h2, hrest⟩ := h c
  refine ⟨h0.trans ?_, h1.trans ?_, h2.trans ?_, hrest⟩
  · rw [Cert.KernelIdeal.Run.final3, Cert.KernelIdeal.Run.xArr_eq, Cert.KernelIdeal.Run.wArr_eq, Cert.KernelIdeal.Run.sArr_eq]
    with_reducible unfold yOf
    with_reducible rfl
  · rw [Cert.KernelIdeal.Run.final4, Cert.KernelIdeal.Run.xArr_eq]
    with_reducible unfold codesOfArg
    with_reducible rfl
  · rw [Cert.KernelIdeal.Run.final5, Cert.KernelIdeal.Run.xArr_eq]
    with_reducible unfold scalesOfArg
    with_reducible rfl

/-- The reference ends with them where every group is in range. -/
theorem reference_run (m : (ℓ : Loc Cert.ReferenceIdeal.nD Cert.ReferenceIdeal.τ Cert.ReferenceIdeal.sig) → Buf (Elt Ideal) ℓ)
    (g : Dev Cert.ReferenceIdeal.nD → PrngReg)
    (H : ∀ (c : Dev Cert.ReferenceIdeal.nD) (r : Fin 16384) (b : Fin 54),
      InRange (amax (groupOf (n := 16384) (flat (m ((c.tc : Thread Cert.ReferenceIdeal.nD Cert.ReferenceIdeal.τ).loc Cert.ReferenceIdeal.main_arg0))) r b))
        (tOf (groupOf (n := 16384) (flat (m ((c.tc : Thread Cert.ReferenceIdeal.nD Cert.ReferenceIdeal.τ).loc Cert.ReferenceIdeal.main_arg0))) r b))) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v1_0)
          = yOf (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_v1_1)
          = codesOfArg (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v1_2)
          = scalesOfArg (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) := by
  refine (θ_run _ _ _).mono (fun r h c => ?_) (Cert.ReferenceIdeal.Run.run_results m g)
  obtain ⟨h0, h1, h2, hrest⟩ := h c
  refine ⟨h0.trans ?_, h1.trans ?_, h2.trans ?_, hrest⟩
  · rw [Cert.ReferenceIdeal.Run.final3, Cert.ReferenceIdeal.Run.V_x, Cert.ReferenceIdeal.Gen.V_main_arg1,
      Cert.ReferenceIdeal.Gen.V_main_arg2]
    exact refY_eq _ (H c) _ _
  · rw [Cert.ReferenceIdeal.Run.final4, Cert.ReferenceIdeal.Run.V_x]
    exact refCodes_eq _ (H c)
  · rw [Cert.ReferenceIdeal.Run.final5, Cert.ReferenceIdeal.Run.V_x]
    exact refScales_eq _ (H c)

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.KernelRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel over the extended reals and the reference end with the same three arrays, where every group is in range. -/
theorem algebraic :
    Cert.algebraic_KernelIdeal_ReferenceIdeal_pre_in_range (hKernelIdeal := Cert.KernelIdeal.Gen.facts)
      (hReferenceIdeal := Cert.ReferenceIdeal.Gen.facts) (hPre_in_range := Cert.Pre_in_range.Gen.facts) := by
  intro m g m' g' hpre hargs
  refine ⟨_, _, _, Cert.Equal.kernel_run m g, ?_⟩
  refine (θ_run _ _ _).mono (fun r h c => ?_) (Cert.Equal.reference_run m' g' fun c r b => ?_)
  · obtain ⟨h0, h1, h2, hrest⟩ := h c
    obtain ⟨e0, e1, e2⟩ := hargs c
    rw [e0, e1, e2] at h0
    rw [e0] at h1 h2
    exact ⟨h0, h1, h2, hrest⟩
  · obtain ⟨e0, e1, e2⟩ := hargs c
    have := Cert.Ref.inRange_of_fn _ _ _ (hpre c) r b
    rw [e0]
    exact this

/-- Every claim of the certificate. -/
theorem claim : Cert.Claim :=
  ⟨Cert.Kernel.Gen.facts, Cert.KernelIdeal.Gen.facts, Cert.ReferenceIdeal.Gen.facts, Cert.Pre_in_range.Gen.facts,
    fun m g _ => Cert.Kernel.Run.frame m g,
    fun m g _ => Cert.KernelIdeal.Run.frame m g,
    fun m g _ => Cert.KernelIdeal.Run.frame m g,
    fun m g _ => Cert.ReferenceIdeal.Gen.frame m g,
    fun m g _ => Cert.ReferenceIdeal.Gen.frame m g,
    trivial, algebraic⟩

end Cert.Proof

end
